-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096 : Shape := ⟨1, ![4096]⟩
abbrev S128x4096 : Shape := ⟨2, ![128, 4096]⟩
abbrev S128 : Shape := ⟨1, ![128]⟩
abbrev S128x1 : Shape := ⟨2, ![128, 1]⟩
abbrev S32x16 : Shape := ⟨2, ![32, 16]⟩
abbrev S16 : Shape := ⟨1, ![16]⟩
abbrev S_ : Shape := ⟨0, ![]⟩
abbrev S1x16 : Shape := ⟨2, ![1, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 9
  | .local .tc .vmem => 13
  | .local .tc .smem => 1
  | .local .scVector .vmem => 5
  | _ => 0

abbrev bufTy : (tb : Table) → Fin (nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S32x16, .f32⟩
  | .hbm, ⟨7, _⟩ => ⟨S1x1, .f32⟩
  | .hbm, ⟨8, _⟩ => ⟨S_, .f32⟩
  | .local .tc .vmem, ⟨0, _⟩ => ⟨S128x4096, .f32⟩
  | .local .tc .vmem, ⟨1, _⟩ => ⟨S128x4096, .f32⟩
  | .local .tc .vmem, ⟨2, _⟩ => ⟨S128x4096, .f32⟩
  | .local .tc .vmem, ⟨3, _⟩ => ⟨S128x4096, .f32⟩
  | .local .tc .vmem, ⟨4, _⟩ => ⟨S128, .f32⟩
  | .local .tc .vmem, ⟨5, _⟩ => ⟨S128, .f32⟩
  | .local .tc .vmem, ⟨6, _⟩ => ⟨S128, .f32⟩
  | .local .tc .vmem, ⟨7, _⟩ => ⟨S128, .f32⟩
  | .local .tc .vmem, ⟨8, _⟩ => ⟨S128, .f32⟩
  | .local .tc .vmem, ⟨9, _⟩ => ⟨S128, .f32⟩
  | .local .tc .vmem, ⟨10, _⟩ => ⟨S128, .f32⟩
  | .local .tc .vmem, ⟨11, _⟩ => ⟨S128, .f32⟩
  | .local .tc .vmem, ⟨12, _⟩ => ⟨S32x16, .f32⟩
  | .local .tc .smem, ⟨0, _⟩ => ⟨S1x1, .f32⟩
  | .local .scVector .vmem, ⟨0, _⟩ => ⟨S128, .f32⟩
  | .local .scVector .vmem, ⟨1, _⟩ => ⟨S128, .f32⟩
  | .local .scVector .vmem, ⟨2, _⟩ => ⟨S128, .f32⟩
  | .local .scVector .vmem, ⟨3, _⟩ => ⟨S128, .f32⟩
  | .local .scVector .vmem, ⟨4, _⟩ => ⟨S16, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev main_v0_3_scv : Ref sig .scVector := ⟨.hbm, 5, rfl⟩
abbrev main_v1_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc2_stg0_0 : Ref sig .tc := ⟨.vmem, 12, rfl⟩
abbrev cc2_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc2_sem0_0 : DmaSem sig := 17
abbrev cc2_sem1_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r4 : BitVec 32 := 0#32
  ![v1.toNat, 0]
abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4096 : Shape := ⟨2, ![4096, 4096]⟩
abbrev S_ : Shape := ⟨0, ![]⟩
abbrev S4096x1 : Shape := ⟨2, ![4096, 1]⟩
abbrev S4096 : Shape := ⟨1, ![4096]⟩
abbrev S4096x2 : Shape := ⟨2, ![4096, 2]⟩
abbrev S4096x1x1 : Shape := ⟨3, ![4096, 1, 1]⟩
abbrev S1 : Shape := ⟨1, ![1]⟩
abbrev S1x1x1 : Shape := ⟨3, ![1, 1, 1]⟩
abbrev S2 : Shape := ⟨1, ![2]⟩

abbrev nBuf : Space → Nat
  | .hbm => 131
  | .vmem => 0
  | .smem => 0
  | _ => 0

abbrev hbmTy0_0 (i : Nat) : BufTy := match i % 128 with
  | 0 => ⟨S4096x4096, .f32⟩
  | 1 => ⟨S4096x4096, .f32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S4096x4096, .i1⟩
  | 8 => ⟨S4096x4096, .f32⟩
  | 9 => ⟨S_, .f32⟩
  | 10 => ⟨S4096x4096, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S4096x4096, .f32⟩
  | 17 => ⟨S4096x4096, .i32⟩
  | 18 => ⟨S4096x4096, .f32⟩
  | 19 => ⟨S4096x4096, .i32⟩
  | 20 => ⟨S4096x1, .f32⟩
  | 21 => ⟨S4096, .f32⟩
  | 22 => ⟨S4096x1, .i32⟩
  | 23 => ⟨S4096, .i32⟩
  | 24 => ⟨S_, .f32⟩
  | 25 => ⟨S4096x4096, .f32⟩
  | 26 => ⟨S4096x4096, .f32⟩
  | 27 => ⟨S4096x4096, .f32⟩
  | 28 => ⟨S4096x4096, .f32⟩
  | 29 => ⟨S4096x4096, .f32⟩
  | 30 => ⟨S4096x4096, .f32⟩
  | 31 => ⟨S4096x4096, .f32⟩
  | 32 => ⟨S4096x4096, .i32⟩
  | 33 => ⟨S4096x4096, .f32⟩
  | 34 => ⟨S4096x4096, .i32⟩
  | 35 => ⟨S4096x1, .f32⟩
  | 36 => ⟨S4096, .f32⟩
  | 37 => ⟨S4096x1, .i32⟩
  | 38 => ⟨S4096, .i32⟩
  | 39 => ⟨S4096x1, .f32⟩
  | 40 => ⟨S4096x1, .f32⟩
  | 41 => ⟨S4096x2, .f32⟩
  | 42 => ⟨S_, .f32⟩
  | 43 => ⟨S4096, .f32⟩
  | 44 => ⟨S_, .f32⟩
  | 45 => ⟨S4096, .f32⟩
  | 46 => ⟨S4096, .f32⟩
  | 47 => ⟨S4096x1, .f32⟩
  | 48 => ⟨S4096x2, .f32⟩
  | 49 => ⟨S4096x2, .f32⟩
  | 50 => ⟨S4096x2, .f32⟩
  | 51 => ⟨S_, .f32⟩
  | 52 => ⟨S4096, .f32⟩
  | 53 => ⟨S4096x1, .f32⟩
  | 54 => ⟨S4096x1, .f32⟩
  | 55 => ⟨S4096x2, .f32⟩
  | 56 => ⟨S4096x2, .f32⟩
  | 57 => ⟨S4096x1, .i32⟩
  | 58 => ⟨S_, .i32⟩
  | 59 => ⟨S4096x1, .i32⟩
  | 60 => ⟨S4096x1, .i1⟩
  | 61 => ⟨S_, .i32⟩
  | 62 => ⟨S4096x1, .i32⟩
  | 63 => ⟨S4096x1, .i32⟩
  | 64 => ⟨S4096x1, .i32⟩
  | 65 => ⟨S4096x1x1, .i32⟩
  | 66 => ⟨S1, .i32⟩
  | 67 => ⟨S_, .i32⟩
  | 68 => ⟨S4096x1x1, .i32⟩
  | 69 => ⟨S4096x1x1, .i1⟩
  | 70 => ⟨S1x1x1, .i32⟩
  | 71 => ⟨S4096x1x1, .i32⟩
  | 72 => ⟨S4096x1x1, .i1⟩
  | 73 => ⟨S4096x1x1, .i1⟩
  | 74 => ⟨S_, .i1⟩
  | 75 => ⟨S4096x1, .i1⟩
  | 76 => ⟨S4096x1, .f32⟩
  | 77 => ⟨S_, .f32⟩
  | 78 => ⟨S4096x1, .f32⟩
  | 79 => ⟨S4096x1, .f32⟩
  | 80 => ⟨S4096, .f32⟩
  | 81 => ⟨S4096x1, .i32⟩
  | 82 => ⟨S_, .i32⟩
  | 83 => ⟨S4096x1, .i32⟩
  | 84 => ⟨S4096x1, .i1⟩
  | 85 => ⟨S_, .i32⟩
  | 86 => ⟨S4096x1, .i32⟩
  | 87 => ⟨S4096x1, .i32⟩
  | 88 => ⟨S4096x1, .i32⟩
  | 89 => ⟨S4096x1x1, .i32⟩
  | 90 => ⟨S1, .i32⟩
  | 91 => ⟨S_, .i32⟩
  | 92 => ⟨S4096x1x1, .i32⟩
  | 93 => ⟨S4096x1x1, .i1⟩
  | 94 => ⟨S1x1x1, .i32⟩
  | 95 => ⟨S4096x1x1, .i32⟩
  | 96 => ⟨S4096x1x1, .i1⟩
  | 97 => ⟨S4096x1x1, .i1⟩
  | 98 => ⟨S_, .i1⟩
  | 99 => ⟨S4096x1, .i1⟩
  | 100 => ⟨S4096x1, .f32⟩
  | 101 => ⟨S_, .f32⟩
  | 102 => ⟨S4096x1, .f32⟩
  | 103 => ⟨S4096x1, .f32⟩
  | 104 => ⟨S4096, .f32⟩
  | 105 => ⟨S4096x1, .f32⟩
  | 106 => ⟨S4096x1, .f32⟩
  | 107 => ⟨S4096x2, .f32⟩
  | 108 => ⟨S_, .f32⟩
  | 109 => ⟨S4096, .f32⟩
  | 110 => ⟨S_, .f32⟩
  | 111 => ⟨S4096, .f32⟩
  | 112 => ⟨S4096, .f32⟩
  | 113 => ⟨S4096x1, .f32⟩
  | 114 => ⟨S4096x2, .f32⟩
  | 115 => ⟨S4096x2, .f32⟩
  | 116 => ⟨S4096x2, .f32⟩
  | 117 => ⟨S_, .f32⟩
  | 118 => ⟨S4096, .f32⟩
  | 119 => ⟨S4096x1, .f32⟩
  | 120 => ⟨S4096x2, .f32⟩
  | 121 => ⟨S4096x2, .f32⟩
  | 122 => ⟨S4096x2, .f32⟩
  | 123 => ⟨S4096x2, .f32⟩
  | 124 => ⟨S_, .f32⟩
  | 125 => ⟨S2, .f32⟩
  | 126 => ⟨S_, .f32⟩
  | 127 => ⟨S2, .f32⟩
  | _ => ⟨S4096x4096, .f32⟩

abbrev hbmTy0_1 (i : Nat) : BufTy := match i % 128 with
  | 0 => ⟨S2, .f32⟩
  | 1 => ⟨S_, .f32⟩
  | 2 => ⟨S_, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call1_v0 : Ref sig .tc := ⟨.hbm, 17, rfl⟩
abbrev main_call1_v1_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call3_v0 : Ref sig .tc := ⟨.hbm, 32, rfl⟩
abbrev main_call3_v1_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call4_cst : Ref sig .tc := ⟨.hbm, 42, rfl⟩
abbrev main_call4_v0 : Ref sig .tc := ⟨.hbm, 43, rfl⟩
abbrev main_call4_cst_0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_cst_1 : Ref sig .tc := ⟨.hbm, 51, rfl⟩
abbrev main_call4_v7 : Ref sig .tc := ⟨.hbm, 52, rfl⟩
abbrev main_call4_v8 : Ref sig .tc := ⟨.hbm, 53, rfl⟩
abbrev main_call4_v9 : Ref sig .tc := ⟨.hbm, 54, rfl⟩
abbrev main_call4_v10 : Ref sig .tc := ⟨.hbm, 55, rfl⟩
abbrev main_v32 : Ref sig .tc := ⟨.hbm, 56, rfl⟩
abbrev main_v33 : Ref sig .tc := ⟨.hbm, 57, rfl⟩
abbrev main_call5_c : Ref sig .tc := ⟨.hbm, 58, rfl⟩
abbrev main_call5_v0 : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_v5 : Ref sig .tc := ⟨.hbm, 65, rfl⟩
abbrev main_call5_c_1 : Ref sig .tc := ⟨.hbm, 66, rfl⟩
abbrev main_call5_c_2 : Ref sig .tc := ⟨.hbm, 67, rfl⟩
abbrev main_call5_v6 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_call5_v11 : Ref sig .tc := ⟨.hbm, 73, rfl⟩
abbrev main_call5_c_3 : Ref sig .tc := ⟨.hbm, 74, rfl⟩
abbrev main_call5_v12 : Ref sig .tc := ⟨.hbm, 75, rfl⟩
abbrev main_call5_v13 : Ref sig .tc := ⟨.hbm, 76, rfl⟩
abbrev main_call5_cst : Ref sig .tc := ⟨.hbm, 77, rfl⟩
abbrev main_call5_v14 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call6_c : Ref sig .tc := ⟨.hbm, 82, rfl⟩
abbrev main_call6_v0 : Ref sig .tc := ⟨.hbm, 83, rfl⟩
abbrev main_call6_v1 : Ref sig .tc := ⟨.hbm, 84, rfl⟩
abbrev main_call6_c_0 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_c_1 : Ref sig .tc := ⟨.hbm, 90, rfl⟩
abbrev main_call6_c_2 : Ref sig .tc := ⟨.hbm, 91, rfl⟩
abbrev main_call6_v6 : Ref sig .tc := ⟨.hbm, 92, rfl⟩
abbrev main_call6_v7 : Ref sig .tc := ⟨.hbm, 93, rfl⟩
abbrev main_call6_v8 : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_3 : Ref sig .tc := ⟨.hbm, 98, rfl⟩
abbrev main_call6_v12 : Ref sig .tc := ⟨.hbm, 99, rfl⟩
abbrev main_call6_v13 : Ref sig .tc := ⟨.hbm, 100, rfl⟩
abbrev main_call6_cst : Ref sig .tc := ⟨.hbm, 101, rfl⟩
abbrev main_call6_v14 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_cst_2 : Ref sig .tc := ⟨.hbm, 108, rfl⟩
abbrev main_v42 : Ref sig .tc := ⟨.hbm, 109, rfl⟩
abbrev main_cst_3 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_4 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_5 : Ref sig .tc := ⟨.hbm, 124, rfl⟩
abbrev main_v55 : Ref sig .tc := ⟨.hbm, 125, rfl⟩
abbrev main_cst_6 : Ref sig .tc := ⟨.hbm, 126, rfl⟩
abbrev main_v56 : Ref sig .tc := ⟨.hbm, 127, rfl⟩
abbrev main_v57 : Ref sig .tc := ⟨.hbm, 128, rfl⟩
abbrev main_cst_7 : Ref sig .tc := ⟨.hbm, 129, rfl⟩
abbrev main_v58 : Ref sig .tc := ⟨.hbm, 130, rfl⟩

abbrev nD : Nat := 1
abbrev τ : Topo := Topo.v7x

variable {F : FTy → Type} [FloatOps F]
-- ==== Proof.KI.Common.lean ====
/-
  What the modules of the program's run share: the launch as the SparseCore launch theorem sees it, the resource
  algebra (the handshakes' rounds, the staging cells' rounds, the transfers' counters), and the TensorCore's buffers at
  a valuation.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.RegionsLoop
public import Idealize.ShloMosaic.Lib.Pipeline.FrameBody
public import Idealize.ShloMosaic.Lib.Tactic
public import Idealize.ShloMosaic.Lib.ValueIdxCore
public import Idealize.ShloMosaic.Lib.Pipeline.ValueKit.Geometry
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := (UH × UR sig nD τ) × Counters

local notation "𝕄" => MT nD τ sig (HIx 1) (Elt F) ℕ UU ℕ

/-- The handshakes' rounds, embedded; -/
def EH : Emb UH (MT nD τ sig (HIx 1) (Elt F) ℕ UU ℕ) := (Emb.inl : Emb UH (UH × UR sig nD τ)).trans embL
/-- and the staging cells'. -/
def EP : Emb (UR sig nD τ) (MT nD τ sig (HIx 1) (Elt F) ℕ UU ℕ) := (Emb.inr : Emb (UR sig nD τ) (UH × UR sig nD τ)).trans embL

instance EH_landsIn : (EH (F := F)).LandsIn (upEmb : UEmb _ 𝕄) := by unfold EH; infer_instance
instance EP_landsIn : (EP (F := F)).LandsIn (upEmb : UEmb _ 𝕄) := by unfold EP; infer_instance

/-- The pipelines prefetch no table. -/
abbrev adm (p : Fin 2) : (pcfgs (F := F) p).Adm := (cfgs p).toPCfg_adm

/-- Every device's unscoped TensorCore buffers at some contents. -/
abbrev Vals (F : FTy → Type) : Type := (c : Dev nD) → (b : Ref sig .tc) → Buf (Elt F) ((c : Thread nD τ).loc b)

/-- Waits whose levels on the TensorCore are at most `b`. -/
abbrev recs (b : ℕ) (c : Dev nD) : Set (SemLoc sig × HIx 1) :=
  {p | (K (F := F)).lev ((c : Thread nD τ), p.1) p.2 ≤ b}

end Cert.KernelIdeal.Run

end
-- ==== Proof.KI.Mine.lean ====
/-
  The first TensorCore call: its body's triple, at any staging memrefs; its proof data from any valuation of the
  unscoped buffers, whatever the core owes elsewhere; its body obligation.
-/
module

public import proofs.«01_k».proof.Proof.KI.Common

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The body's accesses -/

abbrev rIn : Rect S128x4096 := Rect.unit (s := S128x4096) ![0, 0] S128x4096.size inb_S128x4096_S128x4096_0_0
abbrev rOut : Rect S128 := Rect.unit (s := S128) ![0] S128.size inb_S128_S128_0

/-- A block of an input, as the body loads it whole. -/
abbrev ldIn (x : Vec F S128x4096 .f32) : Vec F S128x4096 .f32 := View.ld x rIn

/-! ## What the body leaves in each output window's buffer, from the two input blocks -/

def mineAp (i : grid0.Coords) (x0 : Vec F S128x4096 .f32) : Vec F S128 .f32 :=
  View.canon [⟨rOut, k0_pay5 (k0_pay11 i (ldIn x0)) (k0_pay12 i (ldIn x0))⟩]
def mineAn (i : grid0.Coords) (x0 : Vec F S128x4096 .f32) : Vec F S128 .f32 :=
  View.canon [⟨rOut, k0_pay6 (k0_pay11 i (ldIn x0)) (k0_pay12 i (ldIn x0))⟩]
def mineGp (i : grid0.Coords) (x0 x1 : Vec F S128x4096 .f32) : Vec F S128 .f32 :=
  View.canon [⟨rOut, k0_pay2 (k0_pay13 i (ldIn x0) (ldIn x1)) (Scalar.ofBits .f32 0x3F800000#32)⟩]
def mineGn (i : grid0.Coords) (x0 x1 : Vec F S128x4096 .f32) : Vec F S128 .f32 :=
  View.canon [⟨rOut, k0_pay3 (k0_pay14 i (ldIn x0) (ldIn x1)) (Scalar.ofBits .f32 0x3F800000#32)⟩]

/-- One store of the whole block covers the buffer. -/
theorem coverOut (p : Vec F S128 .f32) (y : S128.Idx) :
    ∃ pc ∈ ([⟨rOut, p⟩] : List (View.Piece (Elt F) S128 .f32)), y ∈ pc.1.set :=
  View.cover_of_tiled [⟨rOut, p⟩] S128.size (by rfl) y

set_option maxHeartbeats 2000000 in
/-- The body on whole staging memrefs, the inputs' at read contents and the outputs' at anything, runs to the
    continuation holding the inputs' as they were and each output's at what the body computes from them. -/
theorem sound_mine (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (x0 x1 : Vec F S128x4096 .f32) (Q : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (mineAp i x0) ∗ owns (c : Thread nD τ) arg4 fullShare (mineAn i x0)
            ∗ owns (c : Thread nD τ) arg5 fullShare (mineGp i x0 x1) ∗ owns (c : Thread nD τ) arg6 fullShare (mineGn i x0 x1)) -∗ Q ⟨⟩))
      ⊢ wp frame (wpE (defs₀ (F := F)) Variants.none c none) E
          (cc0__mine_body i arg1 harg1 arg2 harg2 arg3 harg3 arg4 harg4 arg5 harg5 arg6 harg6) Q := by
  simp only [cc0__mine_body_eq_skeleton]; unfold cc0__mine_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverOut _)
  isplitl [H3]
  · iexists _; isplitr
    swap; · iexact H3
    ipureintro
    exact View.read_writes_eq_canon _ _ _ (coverOut _)
  isplitl [H4]
  · iexists _; isplitr
    swap; · iexact H4
    ipureintro
    exact View.read_writes_eq_canon _ _ _ (coverOut _)
  iexists _; isplitr
  swap; · iexact H5
  ipureintro
  exact View.read_writes_eq_canon _ _ _ (coverOut _)

/-! ## The proof data -/

/-- Window `w`'s block at point `t`, read off its array at the entry valuation. -/
def iblk0 (W : Vals F) (c : Dev nD) (w : Fin cfg0.W) (t : Fin cfg0.N) :
    ((cfg0.win w).xblock (cfg0.grid.coords t)).Idx → Elt F (cfg0.win w).elt :=
  ((cfg0.win w).blk t).view.read (Elt F) (W c (Pipeline.arrRef spec0 w))

/-- The proof data of the first call entered at valuation `W`, the core owing `O c` throughout, its recorded waits
    within `B c`. -/
def dat0 (W : Vals F) (O : Dev nD → CellTallies nD τ sig (HIx 1)) (B : Dev nD → Set (SemLoc sig × HIx 1)) (c : Dev nD) :
    Dat τ (Elt F) (HIx 1) ℕ UU ℕ cfg0 c where
  A w := W c (Pipeline.arrRef spec0 w)
  after w t := match w with
    | ⟨0, _⟩ => iblk0 W c 0 t
    | ⟨1, _⟩ => iblk0 W c 1 t
    | ⟨2, _⟩ => mineAp (grid0.coords t) (iblk0 W c 0 t)
    | ⟨3, _⟩ => mineAn (grid0.coords t) (iblk0 W c 0 t)
    | ⟨4, _⟩ => mineGp (grid0.coords t) (iblk0 W c 0 t) (iblk0 W c 1 t)
    | ⟨5, _⟩ => mineGn (grid0.coords t) (iblk0 W c 0 t) (iblk0 W c 1 t)
  Φ _ := Pipeline.scopedRest (Ix := HIx 1) (Name := ℕ) (U := UU) (Lvl := ℕ) (Val := Elt F) spec0 c
  q _ := fullShare
  owed _ := O c
  recorded _ := B c

variable (W : Vals F) (O : Dev nD → CellTallies nD τ sig (HIx 1)) (B : Dev nD → Set (SemLoc sig × HIx 1))

theorem after0_0 (c : Dev nD) (t : Fin cfg0.N) : (dat0 W O B c).after 0 t = iblk0 W c 0 t := by dsimp only [dat0]
theorem after0_1 (c : Dev nD) (t : Fin cfg0.N) : (dat0 W O B c).after 1 t = iblk0 W c 1 t := by dsimp only [dat0]
theorem after0_2 (c : Dev nD) (t : Fin cfg0.N) : (dat0 W O B c).after 2 t = mineAp (grid0.coords t) (iblk0 W c 0 t) := by dsimp only [dat0]
theorem after0_3 (c : Dev nD) (t : Fin cfg0.N) : (dat0 W O B c).after 3 t = mineAn (grid0.coords t) (iblk0 W c 0 t) := by dsimp only [dat0]
theorem after0_4 (c : Dev nD) (t : Fin cfg0.N) : (dat0 W O B c).after 4 t = mineGp (grid0.coords t) (iblk0 W c 0 t) (iblk0 W c 1 t) := by dsimp only [dat0]
theorem after0_5 (c : Dev nD) (t : Fin cfg0.N) : (dat0 W O B c).after 5 t = mineGn (grid0.coords t) (iblk0 W c 0 t) (iblk0 W c 1 t) := by dsimp only [dat0]

/-- Each input's buffer holds its block when the body runs. -/
theorem before0_0 (c : Dev nD) (t : Fin cfg0.N) (d) : (dat0 W O B c).before 0 t d = iblk0 W c 0 t :=
  ((dat0 W O B c).before_fetched 0 t (fetch0_0 t) d).trans (by unfold Dat.fetched Dat.blockOf iblk0; rfl)
theorem before0_1 (c : Dev nD) (t : Fin cfg0.N) (d) : (dat0 W O B c).before 1 t d = iblk0 W c 1 t :=
  ((dat0 W O B c).before_fetched 1 t (fetch0_1 t) d).trans (by unfold Dat.fetched Dat.blockOf iblk0; rfl)

theorem row0 (t : Fin cfg0.N) :
    defs₀ (F := F) .tc cfg0.body (cfg0.bodyArgs t (cfg0.slots t)) = bodyAt0 t := rfl

/-- The body obligation at any point: the inputs' buffers at their blocks, `sound_mine`, its post reassembled. -/
theorem body_obligation0 (c : Dev nD) : BodyObligation (dat0 W O B c) (defs₀ (F := F)) 𝒱₀ (none : HIx 1) Set.univ := fun t => by
  rw [bigSep_W0, bigSep_W0, row0]
  simp only [before0_0, before0_1, after0_0, after0_1, after0_2, after0_3, after0_4, after0_5]
  rw [show (dat0 W O B c).Φ t.succ = (dat0 W O B c).Φ t.castSucc from rfl,
    show (dat0 W O B c).owesAt (none : HIx 1) t.succ = (dat0 W O B c).owesAt none t.castSucc from rfl]
  iintro ⟨HΦ, Howes, ⟨%d0, H0⟩, ⟨%d1, H1⟩, ⟨%d2, H2⟩, ⟨%d3, H3⟩, ⟨%d4, H4⟩, ⟨%d5, H5⟩⟩
  iapply (sound_mine c Set.univ (grid0.coords t) _ _ _ _ _ _ _ _ _ _ _ _ (iblk0 W c 0 t) (iblk0 W c 1 t))
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

end Cert.KernelIdeal.Run

end
-- ==== Proof.KI.Sum.lean ====
/-
  The last TensorCore call: its body's triple, its proof data from any valuation of the unscoped buffers, its body
  obligation.
-/
module

public import proofs.«01_k».proof.Proof.KI.Common

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

abbrev rRow : Rect S32x16 := Rect.unit (s := S32x16) ![0, 0] S32x16.size inb_S32x16_S32x16_0_0
abbrev rOne : Rect S1x1 := Rect.unit (s := S1x1) ![0, 0] S1x1.size inb_S1x1_S1x1_0_0

/-- What the body leaves in the output's buffer. -/
def sumOut (x : Vec F S32x16 .f32) : Vec F S1x1 .f32 := View.canon [⟨rOne, fun _ => k2_pay1 (View.ld x rRow)⟩]

theorem coverOne (p : Vec F S1x1 .f32) (y : S1x1.Idx) :
    ∃ pc ∈ ([⟨rOne, p⟩] : List (View.Piece (Elt F) S1x1 .f32)), y ∈ pc.1.set :=
  View.cover_of_tiled [⟨rOne, p⟩] S1x1.size (by rfl) y

/-- The body on whole staging memrefs runs to the continuation holding the input's as it was and the output's at what
    the body computes from it. -/
theorem sound_sum (c : Dev nD) (E : Set ℕ)
    (arg0 : Memref sig .tc .vmem S32x16 .f32) (harg0 : arg0.IsWhole) (arg1 : Memref sig .tc .smem S1x1 .f32) (harg1 : arg1.IsWhole)
    (x : Vec F S32x16 .f32) (Q : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (sumOut x)) -∗ Q ⟨⟩))
      ⊢ wp frame (wpE (defs₀ (F := F)) Variants.none c none) E (cc2__sum_body arg0 harg0 arg1 harg1) Q := by
  simp only [cc2__sum_body_eq_skeleton]; unfold cc2__sum_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOne _)

/-- Window `w`'s block at point `t`, read off its array at the entry valuation. -/
def iblk2 (W : Vals F) (c : Dev nD) (w : Fin cfg2.W) (t : Fin cfg2.N) :
    ((cfg2.win w).xblock (cfg2.grid.coords t)).Idx → Elt F (cfg2.win w).elt :=
  ((cfg2.win w).blk t).view.read (Elt F) (W c (Pipeline.arrRef spec2 w))

/-- The proof data of the last call entered at valuation `W`. -/
def dat2 (W : Vals F) (O : Dev nD → CellTallies nD τ sig (HIx 1)) (B : Dev nD → Set (SemLoc sig × HIx 1)) (c : Dev nD) :
    Dat τ (Elt F) (HIx 1) ℕ UU ℕ cfg2 c where
  A w := W c (Pipeline.arrRef spec2 w)
  after w t := match w with
    | ⟨0, _⟩ => iblk2 W c 0 t
    | ⟨1, _⟩ => sumOut (iblk2 W c 0 t)
  Φ _ := Pipeline.scopedRest (Ix := HIx 1) (Name := ℕ) (U := UU) (Lvl := ℕ) (Val := Elt F) spec2 c
  q _ := fullShare
  owed _ := O c
  recorded _ := B c

variable (W : Vals F) (O : Dev nD → CellTallies nD τ sig (HIx 1)) (B : Dev nD → Set (SemLoc sig × HIx 1))

theorem after2_0 (c : Dev nD) (t : Fin cfg2.N) : (dat2 W O B c).after 0 t = iblk2 W c 0 t := by dsimp only [dat2]
theorem after2_1 (c : Dev nD) (t : Fin cfg2.N) : (dat2 W O B c).after 1 t = sumOut (iblk2 W c 0 t) := by dsimp only [dat2]

theorem before2_0 (c : Dev nD) (t : Fin cfg2.N) (d) : (dat2 W O B c).before 0 t d = iblk2 W c 0 t :=
  ((dat2 W O B c).before_fetched 0 t (fetch2_0 t) d).trans (by unfold Dat.fetched Dat.blockOf iblk2; rfl)

theorem row2 (t : Fin cfg2.N) : defs₀ (F := F) .tc cfg2.body (cfg2.bodyArgs t (cfg2.slots t)) = bodyAt2 t := rfl

theorem body_obligation2 (c : Dev nD) : BodyObligation (dat2 W O B c) (defs₀ (F := F)) 𝒱₀ (none : HIx 1) Set.univ := fun t => by
  rw [bigSep_W2, bigSep_W2, row2]
  simp only [before2_0, after2_0, after2_1]
  rw [show (dat2 W O B c).Φ t.succ = (dat2 W O B c).Φ t.castSucc from rfl,
    show (dat2 W O B c).owesAt (none : HIx 1) t.succ = (dat2 W O B c).owesAt none t.castSucc from rfl]
  iintro ⟨HΦ, Howes, ⟨%d0, H0⟩, ⟨%d1, H1⟩⟩
  iapply (sound_sum c Set.univ _ _ _ _ (iblk2 W c 0 t))
  isplitl [H0]; · iexact H0
  isplitl [H1]; · iexists _; iexact H1
  iintro ⟨H0, H1⟩
  isplitl [HΦ]; · iexact HΦ
  isplitl [Howes]; · iexact Howes
  isplitl [H0]; · iexact H0
  iexact H1

end Cert.KernelIdeal.Run

end
-- ==== Proof.KI.Regions.lean ====
/-
  The two TensorCore calls as regions of @main, entered from any valuation of the unscoped buffers while the core owes
  the SparseCores what it has yet to start.
-/
module

public import proofs.«01_k».proof.Proof.KI.Mine
public import proofs.«01_k».proof.Proof.KI.Sum

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-- The two calls' proof data. -/
def pdats (W0 W1 : Vals F) (O : Dev nD → CellTallies nD τ sig (HIx 1)) (b : ℕ) :
    (p : Fin 2) → (c : Dev nD) → Dat τ (Elt F) (HIx 1) ℕ UU ℕ (Pipeline.pin (pcfgs (F := F)) adm p) c
  | ⟨0, _⟩ => fun c => dat0 W0 O (recs (F := F) b) c
  | ⟨1, _⟩ => fun c => dat2 W1 O (recs (F := F) b) c

variable (W0 W1 : Vals F) (O : Dev nD → CellTallies nD τ sig (HIx 1)) (b : ℕ)

/-- What the core owes elsewhere lies above the staging cells' waits. -/
theorem lev_pos (hO : ∀ c g, O c g none = 0) (c : Dev nD) (g : GSem nD τ sig) (i : HIx 1) (h : 0 < O c g i) :
    0 < (K (F := F)).lev g i := by
  cases i with
  | none => rw [hO c g] at h; exact absurd h (Nat.lt_irrefl 0)
  | some q => exact (K (F := F)).lev_some_pos g q

set_option backward.isDefEq.respectTransparency.types false in
/-- Call 0's region: entered with every unscoped buffer at `W0 c`, left with them at `Wp c`, which is `W0 c` but for the
    call's own arrays at their final contents; the core owes `O c` throughout, its recorded waits' levels at most `b`. -/
def reg0 (hO : ∀ c g, O c g none = 0) (Wp : Vals F) (R : Dev nD → sProp 𝕄)
    (hWp : ∀ c w, Wp c (Pipeline.arrRef spec0 w) = (dat0 (F := F) W0 O (recs (F := F) b) c).arrAt w cfg0.N)
    (hWp_ne : ∀ c (r : Ref sig .tc), (∀ w, r ≠ Pipeline.arrRef spec0 w) → Wp c r = W0 c r) :
    Pipeline.RegionSeg (pcfgs (F := F)) adm (pdats W0 W1 O b) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 W0 O (recs (F := F) b) c).loose
  hwaits c := Pipeline.cellsWaits_of_cut (Pipeline.pin pcfgs adm) (pdats W0 W1 O b) (none : HIx 1) 0 c 0 (O c) (fun _ => rfl)
    (fun _ _ => Finset.mem_univ _) (fun _ _ => le_rfl) (fun g i h => ⟨Finset.mem_univ _, lev_pos (F := F) O hO c g i h⟩)
  pre c := iprop(unscopedBufs c (W0 c) ∗ R c ∗ ∃ Wd, ⌜(K (F := F)).WBelow (c : Thread nD τ) Wd b⌝ ∗ owes (c : Thread nD τ) (O c) Wd)
  post c := iprop(unscopedBufs c (Wp c) ∗ R c ∗ ∃ Wd, ⌜(K (F := F)).WBelow (c : Thread nD τ) Wd b⌝ ∗ owes (c : Thread nD τ) (O c) Wd)
  X _ := BI.emp
  Y _ := BI.emp
  Z c := iprop(Pipeline.unscopedRest (Ix := HIx 1) (Name := ℕ) (U := UU) (Lvl := ℕ) spec0 c (W0 c) ∗ R c)
  hentry c := by
    rw [Pipeline.ownSems0_none]
    have hsplit := Pipeline.arrays_of_unscopedBufs (p := 0) (pcfgs (F := F)) adm (pdats W0 W1 O b) launch0.win launch0.arr_whole c
      ((pdats W0 W1 O b 0 c).share_full fun _ => rfl) (W0 c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, %hWd, HO⟩; iexists Wd; isplitr; · ipureintro; exact fun q hq => Or.inl (hWd q hq)
      iexact HO
    isplitr; · iempintro
    isplitl [Hrest] <;> iassumption
  hin c := by
    rw [show (pdats W0 W1 O b 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W0 W1 O b 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W0 W1 O b) ((pdats W0 W1 O b 0 c).share_full fun _ => rfl) (W0 c) (Wp c) ((pdats W0 W1 O b 0 c).arrAt · cfg0.N)
      (fun w => (hWp c w).symm)
      (fun r hr => hWp_ne c r fun w h => hr (h ▸ Finset.mem_image.mpr ⟨w, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wd, %hWd, HO⟩; iexists Wd; isplitr
    · ipureintro
      intro q hq
      rcases hWd hq with h | ⟨w, s, h⟩
      · exact h
      · rw [h]; exact Nat.zero_le _
    iexact HO

set_option backward.isDefEq.respectTransparency.types false in
/-- Call 2's region: entered with every unscoped buffer at `W1 c`, left with them at `Wp c`, which is `W1 c` but for the
    call's own arrays at their final contents; the core owes `O c` throughout, its recorded waits' levels at most `b`. -/
def reg2 (hO : ∀ c g, O c g none = 0) (Wp : Vals F) (R : Dev nD → sProp 𝕄)
    (hWp : ∀ c w, Wp c (Pipeline.arrRef spec2 w) = (dat2 (F := F) W1 O (recs (F := F) b) c).arrAt w cfg2.N)
    (hWp_ne : ∀ c (r : Ref sig .tc), (∀ w, r ≠ Pipeline.arrRef spec2 w) → Wp c r = W1 c r) :
    Pipeline.RegionSeg (pcfgs (F := F)) adm (pdats W0 W1 O b) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 W1 O (recs (F := F) b) c).loose
  hwaits c := Pipeline.cellsWaits_of_cut (Pipeline.pin pcfgs adm) (pdats W0 W1 O b) (none : HIx 1) 1 c 0 (O c) (fun _ => rfl)
    (fun _ _ => Finset.mem_univ _) (fun _ _ => le_rfl) (fun g i h => ⟨Finset.mem_univ _, lev_pos (F := F) O hO c g i h⟩)
  pre c := iprop(unscopedBufs c (W1 c) ∗ R c ∗ ∃ Wd, ⌜(K (F := F)).WBelow (c : Thread nD τ) Wd b⌝ ∗ owes (c : Thread nD τ) (O c) Wd)
  post c := iprop(unscopedBufs c (Wp c) ∗ R c ∗ ∃ Wd, ⌜(K (F := F)).WBelow (c : Thread nD τ) Wd b⌝ ∗ owes (c : Thread nD τ) (O c) Wd)
  X _ := BI.emp
  Y _ := BI.emp
  Z c := iprop(Pipeline.unscopedRest (Ix := HIx 1) (Name := ℕ) (U := UU) (Lvl := ℕ) spec2 c (W1 c) ∗ R c)
  hentry c := by
    rw [Pipeline.ownSems0_none]
    have hsplit := Pipeline.arrays_of_unscopedBufs (p := 1) (pcfgs (F := F)) adm (pdats W0 W1 O b) launch2.win launch2.arr_whole c
      ((pdats W0 W1 O b 1 c).share_full fun _ => rfl) (W1 c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, %hWd, HO⟩; iexists Wd; isplitr; · ipureintro; exact fun q hq => Or.inl (hWd q hq)
      iexact HO
    isplitr; · iempintro
    isplitl [Hrest] <;> iassumption
  hin c := by
    rw [show (pdats W0 W1 O b 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats W0 W1 O b 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats W0 W1 O b) ((pdats W0 W1 O b 1 c).share_full fun _ => rfl) (W1 c) (Wp c) ((pdats W0 W1 O b 1 c).arrAt · cfg2.N)
      (fun w => (hWp c w).symm)
      (fun r hr => hWp_ne c r fun w h => hr (h ▸ Finset.mem_image.mpr ⟨w, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wd, %hWd, HO⟩; iexists Wd; isplitr
    · ipureintro
      intro q hq
      rcases hWd hq with h | ⟨w, s, h⟩
      · exact h
      · rw [h]; exact Nat.zero_le _
    iexact HO

end Cert.KernelIdeal.Run

end
-- ==== Proof.KI.Tile.lean ====
/-
  The SparseCore call: what its handshakes carry, one subcore's task with the row it leaves, and the split of a
  SparseCore's operands among its subcores.

  Subcore `s` of SparseCore `c` is worker `2 s + c` of 32. It copies its 128 entries of each of the four arrays to its
  scratch, combines them sixteen at a time into a sixteen-lane accumulator, and copies that to its row of the result.
-/
module

public import proofs.«01_k».proof.Proof.KI.Common

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.ValueKit
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The value a worker computes -/

/-- Sixteen entries of a block of 128, as the task loads them. -/
abbrev ch0 (x : Vec F S128 .f32) : Vec F S16 .f32 := View.ld x (Rect.unit (s := S128) ![0] S16.size inb_S128_S16_0)
abbrev ch1 (x : Vec F S128 .f32) : Vec F S16 .f32 := View.ld x (Rect.unit (s := S128) ![16] S16.size inb_S128_S16_16)
abbrev ch2 (x : Vec F S128 .f32) : Vec F S16 .f32 := View.ld x (Rect.unit (s := S128) ![32] S16.size inb_S128_S16_32)
abbrev ch3 (x : Vec F S128 .f32) : Vec F S16 .f32 := View.ld x (Rect.unit (s := S128) ![48] S16.size inb_S128_S16_48)
abbrev ch4 (x : Vec F S128 .f32) : Vec F S16 .f32 := View.ld x (Rect.unit (s := S128) ![64] S16.size inb_S128_S16_64)
abbrev ch5 (x : Vec F S128 .f32) : Vec F S16 .f32 := View.ld x (Rect.unit (s := S128) ![80] S16.size inb_S128_S16_80)
abbrev ch6 (x : Vec F S128 .f32) : Vec F S16 .f32 := View.ld x (Rect.unit (s := S128) ![96] S16.size inb_S128_S16_96)
abbrev ch7 (x : Vec F S128 .f32) : Vec F S16 .f32 := View.ld x (Rect.unit (s := S128) ![112] S16.size inb_S128_S16_112)

/-- The accumulator after the task's eight steps, from its blocks of the four arrays. -/
def tileVal (a b g h : Vec F S128 .f32) : Vec F S16 .f32 :=
  let v23 := k1_pay2 (ch0 h) (ch0 g) (ch0 a) (ch0 b)
  let v63 := k1_pay3 v23 (ch1 h) (ch1 g) (ch1 a) (ch1 b) (ch2 h) (ch2 g) (ch2 a) (ch2 b)
  let v103 := k1_pay6 v63 (k1_pay4 (ch3 h)) (k1_pay5 (ch3 g)) (ch3 a) (ch3 b) (ch4 h) (ch4 g) (ch4 a) (ch4 b)
  let v143 := k1_pay8 v103 (k1_pay7 (ch5 h) (ch5 g)) (Scalar.ofBits .f32 0x3F800000#32) (ch5 a) (ch5 b) (ch6 h) (ch6 g) (ch6 a) (ch6 b)
  k1_pay1 v143 (k1_pay9 (ch7 h) (ch7 g)) (k1_pay10 (ch7 h) (ch7 g)) (ch7 a) (ch7 b)

/-- Worker `i`'s block of an array of 4096. -/
def blk (x : Vec F S4096 .f32) (i : Fin 32) : Vec F S128 .f32 :=
  fun j => x (ix1 (n := 4096) ⟨128 * i.val + (j 0).val, by have h : (j 0).val < 128 := (j 0).isLt; have := i.isLt; omega⟩)

/-- The call's result: row `i` is worker `i`'s accumulator. -/
def scOut (a b g h : Vec F S4096 .f32) : Vec F S32x16 .f32 :=
  fun y => tileVal (blk a (y 0)) (blk b (y 0)) (blk g (y 0)) (blk h (y 0)) (ix1 (n := 16) (y 1))

/-! ## The buffers -/

abbrev iLoc0 (d : Dev nD) : Loc nD τ sig := (SparseCore.T d).loc main_v0_0
abbrev iLoc1 (d : Dev nD) : Loc nD τ sig := (SparseCore.T d).loc main_v0_1
abbrev iLoc2 (d : Dev nD) : Loc nD τ sig := (SparseCore.T d).loc main_v0_2
abbrev iLoc3 (d : Dev nD) : Loc nD τ sig := (SparseCore.T d).loc main_v0_3
abbrev oLoc (d : Dev nD) : Loc nD τ sig := (SparseCore.T d).loc main_v1

local notation "iV0" => (Memref.whole Cert.KernelIdeal.main_v0_0_scv : Memref Cert.KernelIdeal.sig Kind.scVector Space.hbm Cert.KernelIdeal.S4096 EltTy.f32)
local notation "iV1" => (Memref.whole Cert.KernelIdeal.main_v0_1_scv : Memref Cert.KernelIdeal.sig Kind.scVector Space.hbm Cert.KernelIdeal.S4096 EltTy.f32)
local notation "iV2" => (Memref.whole Cert.KernelIdeal.main_v0_2_scv : Memref Cert.KernelIdeal.sig Kind.scVector Space.hbm Cert.KernelIdeal.S4096 EltTy.f32)
local notation "iV3" => (Memref.whole Cert.KernelIdeal.main_v0_3_scv : Memref Cert.KernelIdeal.sig Kind.scVector Space.hbm Cert.KernelIdeal.S4096 EltTy.f32)
local notation "oV" => (Memref.whole Cert.KernelIdeal.main_v1_scv : Memref Cert.KernelIdeal.sig Kind.scVector Space.hbm Cert.KernelIdeal.S32x16 EltTy.f32)
local notation "sV0" => (Memref.whole Cert.KernelIdeal.cc1_scratch0 : Memref Cert.KernelIdeal.sig Kind.scVector Space.vmem Cert.KernelIdeal.S128 EltTy.f32)
local notation "sV1" => (Memref.whole Cert.KernelIdeal.cc1_scratch1 : Memref Cert.KernelIdeal.sig Kind.scVector Space.vmem Cert.KernelIdeal.S128 EltTy.f32)
local notation "sV2" => (Memref.whole Cert.KernelIdeal.cc1_scratch2 : Memref Cert.KernelIdeal.sig Kind.scVector Space.vmem Cert.KernelIdeal.S128 EltTy.f32)
local notation "sV3" => (Memref.whole Cert.KernelIdeal.cc1_scratch3 : Memref Cert.KernelIdeal.sig Kind.scVector Space.vmem Cert.KernelIdeal.S128 EltTy.f32)
local notation "accV" => (Memref.whole Cert.KernelIdeal.cc1_scratch4 : Memref Cert.KernelIdeal.sig Kind.scVector Space.vmem Cert.KernelIdeal.S16 EltTy.f32)

/-- Worker `i`'s entries of an array of 4096, and its row of the result. -/
def iSet (i : Fin 32) : Finset S4096.Idx := Finset.univ.filter fun y => (y 0).val / 128 = i.val
def oSet (i : Fin 32) : Finset S32x16.Idx := Finset.univ.filter fun y => (y 0).val = i.val

/-! ## What the handshakes carry -/

variable (W : Vals F)

/-- Worker `i`'s entries of the four arrays. -/
abbrev inPts (d : Dev nD) (i : Fin 32) : sProp 𝕄 :=
  iprop((iLoc0 d ↦[iSet i]{fullShare} W d main_v0_0) ∗ (iLoc1 d ↦[iSet i]{fullShare} W d main_v0_1)
    ∗ (iLoc2 d ↦[iSet i]{fullShare} W d main_v0_2) ∗ (iLoc3 d ↦[iSet i]{fullShare} W d main_v0_3))
/-- Its row of the result. -/
abbrev outPts (d : Dev nD) (i : Fin 32) (f : Buf (Elt F) (oLoc d)) : sProp 𝕄 := oLoc d ↦[oSet i]{fullShare} f

/-- The result from the arrays' contents at the call. -/
abbrev scRes (d : Dev nD) : Buf (Elt F) (oLoc d) := scOut (W d main_v0_0) (W d main_v0_1) (W d main_v0_2) (W d main_v0_3)

/-- The worker that is subcore `s` of SparseCore `c`. -/
def wid (c : Fin 2) (s : Fin 16) : Fin 32 := ⟨2 * s.val + c.val, by omega⟩

/-- What a task takes and what it brings back. -/
abbrev preI (d : Dev nD) (i : Fin 32) : sProp 𝕄 := iprop(inPts W d i ∗ outPts d i (W d main_v1))
abbrev postI (d : Dev nD) (i : Fin 32) : sProp 𝕄 := iprop(inPts W d i ∗ outPts d i (scRes W d))

/-- The call gives each SparseCore its workers' entries and rows, and each of its subcores its own. -/
def P : (K (F := F)).Pay (nD := nD) (Val := Elt F) (Name := ℕ) (U := UU) where
  st := fun q d c => match q with | 0 => bigSep Finset.univ fun s : Fin 16 => preI W d (wid (Fin.cast nCore_zero c) s)
  dn := fun q d c => match q with | 0 => bigSep Finset.univ fun s : Fin 16 => postI W d (wid (Fin.cast nCore_zero c) s)
  go := fun q d c s => match q with | 0 => preI W d (wid (Fin.cast nCore_zero c) (Fin.cast nSub_zero s))
  td := fun q d c s => match q with | 0 => postI W d (wid (Fin.cast nCore_zero c) (Fin.cast nSub_zero s))
  x := fun _ _ => iprop(emp)

instance P_storable : (P (F := F) W).IsStorable where
  st q d c := match q with
    | 0 => (inferInstance : BI.Storable (upEmb : UEmb _ 𝕄) (bigSep Finset.univ fun s : Fin 16 => preI W d (wid (Fin.cast nCore_zero c) s)))
  dn q d c := match q with
    | 0 => (inferInstance : BI.Storable (upEmb : UEmb _ 𝕄) (bigSep Finset.univ fun s : Fin 16 => postI W d (wid (Fin.cast nCore_zero c) s)))
  go q d c s := match q with
    | 0 => (inferInstance : BI.Storable (upEmb : UEmb _ 𝕄) (preI W d (wid (Fin.cast nCore_zero c) (Fin.cast nSub_zero s))))
  td q d c s := match q with
    | 0 => (inferInstance : BI.Storable (upEmb : UEmb _ 𝕄) (postI W d (wid (Fin.cast nCore_zero c) (Fin.cast nSub_zero s))))

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev wL (L : grid1.Coords) : Fin 32 := wid (Fin.cast bound_zero (L 0)) (Fin.cast bound_one (L 1))

abbrev iRectK (L : grid1.Coords) : Rect S4096 := Rect.unit (s := S4096) (k1_off1 L) S128.size (k1_off1_inb L)
abbrev oRectK (L : grid1.Coords) : Rect S32x16 := Rect.unit (s := S32x16) (k1_off2 L) S1x16.size (k1_off2_inb L)
/-- The worker's entries of the arrays, and its row of the result squeezed, as the task addresses them. -/
abbrev iK0 (L : grid1.Coords) : Memref sig .scVector .hbm S128 .f32 := (iV0).slice (iRectK L) (fun _ => rfl)
abbrev iK1 (L : grid1.Coords) : Memref sig .scVector .hbm S128 .f32 := (iV1).slice (iRectK L) (fun _ => rfl)
abbrev iK2 (L : grid1.Coords) : Memref sig .scVector .hbm S128 .f32 := (iV2).slice (iRectK L) (fun _ => rfl)
abbrev iK3 (L : grid1.Coords) : Memref sig .scVector .hbm S128 .f32 := (iV3).slice (iRectK L) (fun _ => rfl)
abbrev oK (L : grid1.Coords) : Memref sig .scVector .hbm S16 .f32 := ((oV).slice (oRectK L) (fun _ => rfl)).squeeze S16 squeezes_S1x16_S16

theorem off1_zero : (k1_off1 L) 0 = 256 * (L 1).val + 128 * (L 0).val := by rw [k1_off1_eq]; rfl
theorem off2_zero : (k1_off2 L) 0 = 2 * (L 1).val + (L 0).val := by rw [k1_off2_eq]; rfl
theorem off2_one : (k1_off2 L) 1 = 0 := by rw [k1_off2_eq]; rfl
theorem wL_val : (wL L).val = 2 * (L 1).val + (L 0).val := rfl

theorem iRectK_set : (iRectK L).set = iSet (wL L) := by
  ext y
  unfold iSet
  rw [Rect.mem_set_unit, Finset.mem_filter, wL_val]
  have h := off1_zero L
  constructor
  · intro hy
    have := hy 0
    rw [h, show S128.size 0 = 128 from rfl] at this
    exact ⟨Finset.mem_univ _, by omega⟩
  · rintro ⟨-, hy⟩ a
    match a with
    | 0 =>
      rw [h, show S128.size 0 = 128 from rfl]
      omega
theorem oRectK_set : (oRectK L).set = oSet (wL L) := by
  ext y
  unfold oSet
  rw [Rect.mem_set_unit, Finset.mem_filter, wL_val]
  have h := off2_zero L
  constructor
  · intro hy
    have := hy 0
    rw [h, show S1x16.size 0 = 1 from rfl] at this
    exact ⟨Finset.mem_univ _, by omega⟩
  · rintro ⟨-, hy⟩ a
    match a with
    | 0 =>
      rw [h, show S1x16.size 0 = 1 from rfl]
      omega
    | 1 =>
      rw [off2_one, show S1x16.size 1 = 16 from rfl]
      have : (y 1).val < 16 := (y 1).isLt
      omega

theorem set_iK0 : (iK0 L).view.set = iSet (wL L) := by
  show ((View.whole (main_v0_0_scv : Ref sig .scVector)).slice (iRectK L)).set = _
  rw [View.set_slice, ← iRectK_set]; exact Finset.map_refl
theorem set_iK1 : (iK1 L).view.set = iSet (wL L) := by
  show ((View.whole (main_v0_1_scv : Ref sig .scVector)).slice (iRectK L)).set = _
  rw [View.set_slice, ← iRectK_set]; exact Finset.map_refl
theorem set_iK2 : (iK2 L).view.set = iSet (wL L) := by
  show ((View.whole (main_v0_2_scv : Ref sig .scVector)).slice (iRectK L)).set = _
  rw [View.set_slice, ← iRectK_set]; exact Finset.map_refl
theorem set_iK3 : (iK3 L).view.set = iSet (wL L) := by
  show ((View.whole (main_v0_3_scv : Ref sig .scVector)).slice (iRectK L)).set = _
  rw [View.set_slice, ← iRectK_set]; exact Finset.map_refl
theorem set_oK : (oK L).view.set = oSet (wL L) := by
  show (((View.whole (main_v1_scv : Ref sig .scVector)).slice (oRectK L)).reshape S16 squeezes_S1x16_S16.numel_eq).set = _
  rw [View.set_reshape, View.set_slice, ← oRectK_set]; exact Finset.map_refl

theorem pts_iK0 (f : Buf (Elt F) (iLoc0 d)) :
    ((iK0 L).view.loc (V d (cV L) (jV L)) ↦[(iK0 L).view.set]{fullShare} f : sProp 𝕄) = iLoc0 d ↦[iSet (wL L)]{fullShare} f := by
  rw [set_iK0]
theorem pts_iK1 (f : Buf (Elt F) (iLoc1 d)) :
    ((iK1 L).view.loc (V d (cV L) (jV L)) ↦[(iK1 L).view.set]{fullShare} f : sProp 𝕄) = iLoc1 d ↦[iSet (wL L)]{fullShare} f := by
  rw [set_iK1]
theorem pts_iK2 (f : Buf (Elt F) (iLoc2 d)) :
    ((iK2 L).view.loc (V d (cV L) (jV L)) ↦[(iK2 L).view.set]{fullShare} f : sProp 𝕄) = iLoc2 d ↦[iSet (wL L)]{fullShare} f := by
  rw [set_iK2]
theorem pts_iK3 (f : Buf (Elt F) (iLoc3 d)) :
    ((iK3 L).view.loc (V d (cV L) (jV L)) ↦[(iK3 L).view.set]{fullShare} f : sProp 𝕄) = iLoc3 d ↦[iSet (wL L)]{fullShare} f := by
  rw [set_iK3]
theorem pts_oK (f : Buf (Elt F) (oLoc d)) :
    ((oK L).view.loc (V d (cV L) (jV L)) ↦[(oK L).view.set]{fullShare} f : sProp 𝕄) = oLoc d ↦[oSet (wL L)]{fullShare} f := by
  rw [set_oK]

theorem cell_ne (thr : Thread nD τ) {s s' : SemLoc sig} (h : s ≠ s') : ((thr, s) : GSem nD τ sig) ≠ (thr, s') := fun e => h (congrArg Prod.snd e)

/-- A copy's semaphore on the subcore's own thread. -/
abbrev cell (d : Dev nD) (L : grid1.Coords) (s : SemLoc sig) : GSem nD τ sig := (V d (cV L) (jV L), s)

theorem cell_mem {s : SemLoc sig} (h : s.isScoped .scVector = true) : cell d L s ∈ ownCells (V d (cV L) (jV L)) :=
  (mem_ownCells (g := cell d L s)).mpr ⟨rfl, h⟩

/-- The five copies' semaphores are among the subcore's own: they are them, at zero, and the rest. -/
theorem ownSems0_V :
    (ownSems0 (V d (cV L) (jV L)) : sProp 𝕄)
      = iprop(semVal (cell d L (.dma cc1_scoped0.sem)) 0 ∗ semVal (cell d L (.dma cc1_scoped1.sem)) 0 ∗ semVal (cell d L (.dma cc1_scoped2.sem)) 0 ∗ semVal (cell d L (.dma cc1_scoped3.sem)) 0 ∗ semVal (cell d L (.dma cc1_scoped4.sem)) 0
          ∗ bigSep ((((((ownCells (V d (cV L) (jV L))).erase (cell d L (.dma cc1_scoped0.sem))).erase (cell d L (.dma cc1_scoped1.sem))).erase (cell d L (.dma cc1_scoped2.sem))).erase (cell d L (.dma cc1_scoped3.sem))).erase (cell d L (.dma cc1_scoped4.sem))) fun g => semVal g 0) := by
  unfold SparseCore.Cfg.ownSems0
  rw [SparseCore.bigSep_erase' (cell_mem d L (s := .dma cc1_scoped0.sem) (by decide)),
    SparseCore.bigSep_erase' (Finset.mem_erase.mpr ⟨cell_ne _ (by decide), cell_mem d L (s := .dma cc1_scoped1.sem) (by decide)⟩),
    SparseCore.bigSep_erase' (Finset.mem_erase.mpr ⟨cell_ne _ (by decide), Finset.mem_erase.mpr ⟨cell_ne _ (by decide), cell_mem d L (s := .dma cc1_scoped2.sem) (by decide)⟩⟩),
    SparseCore.bigSep_erase' (Finset.mem_erase.mpr ⟨cell_ne _ (by decide), Finset.mem_erase.mpr ⟨cell_ne _ (by decide), Finset.mem_erase.mpr ⟨cell_ne _ (by decide), cell_mem d L (s := .dma cc1_scoped3.sem) (by decide)⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), cell_mem d L (s := .dma cc1_scoped4.sem) (by decide)⟩⟩⟩⟩)]

theorem ref_ne {r r' : Ref sig .scVector} (h : r ≠ r') :
    (Proc.scVector (cV L) (jV L) : Proc τ).devRef r ≠ (Proc.scVector (cV L) (jV L)).devRef r' := fun e => h (Proc.devRef_injective _ e)

/-- The five scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨ref_ne L (by decide), SparseCore.Cfg.mem_ownRefs_of_owner (p := Proc.scVector (cV L) (jV L)) (b := (Proc.scVector (cV L) (jV L)).devRef cc1_scratch1) rfl⟩),
    SparseCore.bigSep_erase' (Finset.mem_erase.mpr ⟨ref_ne L (by decide), Finset.mem_erase.mpr ⟨ref_ne L (by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨ref_ne L (by decide), Finset.mem_erase.mpr ⟨ref_ne L (by decide), Finset.mem_erase.mpr ⟨ref_ne L (by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), SparseCore.Cfg.mem_ownRefs_of_owner (p := Proc.scVector (cV L) (jV L)) (b := (Proc.scVector (cV L) (jV L)).devRef cc1_scratch4) rfl⟩⟩⟩⟩)]

/-- An array's entries, read as the task addresses them, are the worker's block. -/
theorem read_iK0 (f : Vec F S4096 .f32) : (iK0 L).view.read (Elt F) f = blk f (wL L) := by
  funext j
  refine ((View.read_apply _ _).trans (cast_eq _ _)).trans ?_
  unfold blk
  refine congrArg f (funext fun a => ?_)
  match a with
  | 0 =>
    refine Fin.ext ((view_emb_slice_whole_unit_val main_v0_0_scv (k1_off1 L) S128.size (k1_off1_inb L) j 0).trans ?_)
    rw [off1_zero]
    exact (show _ = 128 * (2 * (L 1).val + (L 0).val) + (j 0).val by omega)
theorem read_iK1 (f : Vec F S4096 .f32) : (iK1 L).view.read (Elt F) f = blk f (wL L) := by
  funext j
  refine ((View.read_apply _ _).trans (cast_eq _ _)).trans ?_
  unfold blk
  refine congrArg f (funext fun a => ?_)
  match a with
  | 0 =>
    refine Fin.ext ((view_emb_slice_whole_unit_val main_v0_1_scv (k1_off1 L) S128.size (k1_off1_inb L) j 0).trans ?_)
    rw [off1_zero]
    exact (show _ = 128 * (2 * (L 1).val + (L 0).val) + (j 0).val by omega)
theorem read_iK2 (f : Vec F S4096 .f32) : (iK2 L).view.read (Elt F) f = blk f (wL L) := by
  funext j
  refine ((View.read_apply _ _).trans (cast_eq _ _)).trans ?_
  unfold blk
  refine congrArg f (funext fun a => ?_)
  match a with
  | 0 =>
    refine Fin.ext ((view_emb_slice_whole_unit_val main_v0_2_scv (k1_off1 L) S128.size (k1_off1_inb L) j 0).trans ?_)
    rw [off1_zero]
    exact (show _ = 128 * (2 * (L 1).val + (L 0).val) + (j 0).val by omega)
theorem read_iK3 (f : Vec F S4096 .f32) : (iK3 L).view.read (Elt F) f = blk f (wL L) := by
  funext j
  refine ((View.read_apply _ _).trans (cast_eq _ _)).trans ?_
  unfold blk
  refine congrArg f (funext fun a => ?_)
  match a with
  | 0 =>
    refine Fin.ext ((view_emb_slice_whole_unit_val main_v0_3_scv (k1_off1 L) S128.size (k1_off1_inb L) j 0).trans ?_)
    rw [off1_zero]
    exact (show _ = 128 * (2 * (L 1).val + (L 0).val) + (j 0).val by omega)

/-- The row the task leaves is the call's result there. -/
theorem out_eq (a b g h : Vec F S4096 .f32) (f : Vec F S32x16 .f32) (y : S32x16.Idx) (hy : y ∈ (oK L).view.set) :
    View.write (Elt F) (oK L).view f (tileVal (blk a (wL L)) (blk b (wL L)) (blk g (wL L)) (blk h (wL L))) Finset.univ y
      = scOut a b g h y := by
  obtain ⟨j, -, rfl⟩ := Finset.mem_map.mp hy
  have hj : Shape.reshapeEquiv squeezes_S1x16_S16.numel_eq j = Fin.cons ⟨0, Nat.one_pos⟩ j := Shape.reshapeEquiv_cons_one _ j
  have he : (oK L).view.emb j = ((View.whole (main_v1_scv : Ref sig .scVector)).slice (oRectK L)).emb (Shape.reshapeEquiv squeezes_S1x16_S16.numel_eq j) := rfl
  have h0 : ((oK L).view.emb j) 0 = wL L := by
    rw [he, hj]
    refine Fin.ext ((view_emb_slice_whole_unit_val main_v1_scv (k1_off2 L) S1x16.size (k1_off2_inb L) _ 0).trans ?_)
    rw [off2_zero, wL_val]; rfl
  have h1 : ix1 (n := 16) (((oK L).view.emb j) 1) = j := by
    rw [he, hj]
    funext a
    match a with
    | 0 =>
      refine Fin.ext ((view_emb_slice_whole_unit_val main_v1_scv (k1_off2 L) S1x16.size (k1_off2_inb L) _ 1).trans ?_)
      rw [off2_one, Nat.zero_add]; rfl
  refine ((View.write_emb_of_mem _ _ (Finset.mem_univ j)).trans (cast_eq _ _)).trans ?_
  unfold scOut
  rw [h0, h1]

omit [FloatOps F] in
/-- The accumulator stored whole reads back the stored vector. -/
theorem read_acc (f : Vec F S16 .f32) (p : Vec F S16 .f32) :
    (accV).view.read (Elt F) ((accV).view.writes (Elt F) f [⟨Rect.unit (s := S16) ![0] S16.size inb_S16_S16_0, p⟩]) = p := by
  have hc : ∀ y : S16.Idx, ∃ q ∈ ([⟨Rect.unit (s := S16) ![0] S16.size inb_S16_S16_0, p⟩] : List (View.Piece (Elt F) S16 .f32)), y ∈ q.1.set :=
    fun y => View.cover_of_tiled [⟨Rect.unit (s := S16) ![0] S16.size inb_S16_S16_0, p⟩] S16.size (by rfl) y
  refine (View.read_writes_eq_canon (accV).view f _ hc).trans ?_
  exact View.canon_cons_unit_lit _ _ _ (fun a => by match a with | 0 => rfl)

set_option maxHeartbeats 8000000 in
/-- The task on vector subcore `(L 0, L 1)` of device `d`: four copies in, the eight steps, the copy out. -/
theorem tile_body (hF : (K (F := F)).Facts) (O : CellTallies nD τ sig (HIx 1)) (Wd : Waits sig (HIx 1)) (hO : ∀ g, O g none = 0) :
    iprop(levAts (K (F := F)).L (K (F := F)).lev ∗ emp ∗ preI W d (wL L)
        ∗ scopedBufs (V d (cV L) (jV L)) ∗ scopedSems0 (V d (cV L) (jV L)) ∗ owes (V d (cV L) (jV L)) O Wd)
      ⊢ wp frame (wpE (defs₀ (F := F)) 𝒱₀ (V d (cV L) (jV L)) none) Set.univ
          (cc1__sc_body L iV0 (Memref.isWhole_whole _) iV1 (Memref.isWhole_whole _) iV2 (Memref.isWhole_whole _) iV3 (Memref.isWhole_whole _) oV (Memref.isWhole_whole _)
            sV0 (Memref.isWhole_whole _) sV1 (Memref.isWhole_whole _) sV2 (Memref.isWhole_whole _) sV3 (Memref.isWhole_whole _) accV (Memref.isWhole_whole _)
            cc1_scoped0 cc1_scoped1 cc1_scoped2 cc1_scoped3 cc1_scoped4)
          fun _ => iprop(postI W d (wL L)
            ∗ scopedBufs (V d (cV L) (jV L)) ∗ scopedSems0 (V d (cV L) (jV L))
            ∗ ∃ W', ⌜∀ p ∈ W', p ∈ Wd ∨ p.2 = none⌝ ∗ owes (V d (cV L) (jV L)) O W') := by
  simp only [cc1__sc_body_eq_skeleton]; unfold cc1__sc_body_skel
  simp only [k1_part1_eq_skeleton, k1_part2_eq_skeleton, k1_part3_eq_skeleton, k1_part4_eq_skeleton]
  rw [(K (F := F)).scopedBufs_V hF d (cV L) (jV L), SparseCore.Cfg.scopedSems0_V (Val := Elt F) d (cV L) (jV L), ownSems0_V, ownBufs_V]
  iintro ⟨#Hlv, -, ⟨⟨I0, I1, I2, I3⟩, Ho⟩, ⟨⟨%f0, S0⟩, ⟨%f1, S1⟩, ⟨%f2, S2⟩, ⟨%f3, S3⟩, ⟨%f4, S4⟩, Hbufs⟩, ⟨C0, C1, C2, C3, C4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave I0' := (Entails.of_eq (pts_iK0 (F := F) d L _).symm) $$ I0
  ihave I1' := (Entails.of_eq (pts_iK1 (F := F) d L _).symm) $$ I1
  ihave I2' := (Entails.of_eq (pts_iK2 (F := F) d L _).symm) $$ I2
  ihave I3' := (Entails.of_eq (pts_iK3 (F := F) d L _).symm) $$ I3
  ihave Ho' := (Entails.of_eq (pts_oK (F := F) d L _).symm) $$ Ho
  ihave S0' := (Entails.of_eq (show ((V d (cV L) (jV L)).loc cc1_scratch0 ↦{fullShare} f0 : sProp 𝕄) = ((sV0).view.loc (V d (cV L) (jV L)) ↦{fullShare} f0) from rfl)) $$ S0
  ihave S1' := (Entails.of_eq (show ((V d (cV L) (jV L)).loc cc1_scratch1 ↦{fullShare} f1 : sProp 𝕄) = ((sV1).view.loc (V d (cV L) (jV L)) ↦{fullShare} f1) from rfl)) $$ S1
  ihave S2' := (Entails.of_eq (show ((V d (cV L) (jV L)).loc cc1_scratch2 ↦{fullShare} f2 : sProp 𝕄) = ((sV2).view.loc (V d (cV L) (jV L)) ↦{fullShare} f2) from rfl)) $$ S2
  ihave S3' := (Entails.of_eq (show ((V d (cV L) (jV L)).loc cc1_scratch3 ↦{fullShare} f3 : sProp 𝕄) = ((sV3).view.loc (V d (cV L) (jV L)) ↦{fullShare} f3) from rfl)) $$ S3
  ihave S4' := (Entails.of_eq (show ((V d (cV L) (jV L)).loc cc1_scratch4 ↦{fullShare} f4 : sProp 𝕄) = ((accV).view.loc (V d (cV L) (jV L)) ↦{fullShare} f4) from rfl)) $$ S4
  sl_exec
  sl_step
  have e0 (r : Rect S128) : View.readAt (Elt F) (sV0).view r.toLoadRect (View.write (Elt F) (sV0).view f0 (tile_body.sl.dma0 W d L) Finset.univ) = View.ld (blk (W d main_v0_0) (wL L)) r := by
    rw [View.readAt_eq_ld, View.read_write_univ]; exact congrArg (View.ld · r) (read_iK0 (F := F) L _)
  have e1 (r : Rect S128) : View.readAt (Elt F) (sV1).view r.toLoadRect (View.write (Elt F) (sV1).view f1 (tile_body.sl.dma0_1 W d L) Finset.univ) = View.ld (blk (W d main_v0_1) (wL L)) r := by
    rw [View.readAt_eq_ld, View.read_write_univ]; exact congrArg (View.ld · r) (read_iK1 (F := F) L _)
  have e2 (r : Rect S128) : View.readAt (Elt F) (sV2).view r.toLoadRect (View.write (Elt F) (sV2).view f2 (tile_body.sl.dma0_2 W d L) Finset.univ) = View.ld (blk (W d main_v0_2) (wL L)) r := by
    rw [View.readAt_eq_ld, View.read_write_univ]; exact congrArg (View.ld · r) (read_iK2 (F := F) L _)
  have e3 (r : Rect S128) : View.readAt (Elt F) (sV3).view r.toLoadRect (View.write (Elt F) (sV3).view f3 (tile_body.sl.dma0_3 W d L) Finset.univ) = View.ld (blk (W d main_v0_3) (wL L)) r := by
    rw [View.readAt_eq_ld, View.read_write_univ]; exact congrArg (View.ld · r) (read_iK3 (F := F) L _)
  have hv : tile_body.sl.dma34 W d L f0 f1 f2 f3 f4
      = tileVal (blk (W d main_v0_0) (wL L)) (blk (W d main_v0_1) (wL L)) (blk (W d main_v0_2) (wL L)) (blk (W d main_v0_3) (wL L)) := by
    unfold tile_body.sl.dma34 tile_body.sl.S4'_1
    refine (read_acc f4 _).trans ?_
    unfold tile_body.sl.r_6 tile_body.sl.r_4 tile_body.sl.r_5 tile_body.sl.r_7 tile_body.sl.r_8 tile_body.sl.v156 tile_body.sl.v160 tile_body.sl.r_3 tile_body.sl.r_2 tile_body.sl.r_1 tile_body.sl.r tile_body.sl.cst_32
    simp only [e0, e1, e2, e3]
    rfl
  have hrow : ∀ y ∈ (oK L).view.set, (oK L).view.writes (Elt F) (W d main_v1) [⟨Rect.whole S16, tile_body.sl.dma34 W d L f0 f1 f2 f3 f4⟩] y = scRes W d y := by
    intro y hy
    rw [← View.write_univ_eq_writes_whole, hv]
    exact out_eq L _ _ _ _ _ y hy
  ihave Ho := (Entails.of_eq (pointsTo_congr hrow)) $$ Ho'
  ihave Ho := (Entails.of_eq (pts_oK (F := F) d L _)) $$ Ho
  ihave I0 := (Entails.of_eq (pts_iK0 (F := F) d L _)) $$ I0'
  ihave I1 := (Entails.of_eq (pts_iK1 (F := F) d L _)) $$ I1'
  ihave I2 := (Entails.of_eq (pts_iK2 (F := F) d L _)) $$ I2'
  ihave I3 := (Entails.of_eq (pts_iK3 (F := F) d L _)) $$ I3'
  isplitl [I0 I1 I2 I3 Ho]
  · isplitr [Ho]
    · isplitl [I0]
      · iexact I0
      isplitl [I1]
      · iexact I1
      isplitl [I2] <;> iassumption
    · iexact Ho
  isplitl [S0' S1' S2' S3' S4' Hbufs]
  · isplitl [S0']
    · iexists _; iexact S0'
    isplitl [S1']
    · iexists _; iexact S1'
    isplitl [S2']
    · iexists _; iexact S2'
    isplitl [S3']
    · iexists _; iexact S3'
    isplitl [S4']
    · iexists _; iexact S4'
    iexact Hbufs
  isplitl [C0 C1 C2 C3 C4 Hsems]
  · isplitl [C0]
    · iexact C0
    isplitl [C1]
    · iexact C1
    isplitl [C2]
    · iexact C2
    isplitl [C3]
    · iexact C3
    isplitl [C4]
    · iexact C4
    iexact Hsems
  iexists _
  isplitr [HO]
  swap
  · iexact HO
  ipureintro
  intro p hp
  simp only [Finset.mem_insert] at hp
  rcases hp with hp | hp | hp | hp | hp | hp
  iterate 5 exact Or.inr (hp ▸ rfl)
  exact Or.inl hp

end Tile

end Cert.KernelIdeal.Run

end
-- ==== Proof.KI.Call.lean ====
/-
  The SparseCore call as the launch sees it: each vector subcore's task meets its obligation, and the arrays the call
  reads and writes are dealt to the thirty-two workers and gathered again.
-/
module

public import proofs.«01_k».proof.Proof.KI.Tile

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.ValueKit
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

local notation "iV0" => (Memref.whole Cert.KernelIdeal.main_v0_0_scv : Memref Cert.KernelIdeal.sig Kind.scVector Space.hbm Cert.KernelIdeal.S4096 EltTy.f32)
local notation "iV1" => (Memref.whole Cert.KernelIdeal.main_v0_1_scv : Memref Cert.KernelIdeal.sig Kind.scVector Space.hbm Cert.KernelIdeal.S4096 EltTy.f32)
local notation "iV2" => (Memref.whole Cert.KernelIdeal.main_v0_2_scv : Memref Cert.KernelIdeal.sig Kind.scVector Space.hbm Cert.KernelIdeal.S4096 EltTy.f32)
local notation "iV3" => (Memref.whole Cert.KernelIdeal.main_v0_3_scv : Memref Cert.KernelIdeal.sig Kind.scVector Space.hbm Cert.KernelIdeal.S4096 EltTy.f32)
local notation "oV" => (Memref.whole Cert.KernelIdeal.main_v1_scv : Memref Cert.KernelIdeal.sig Kind.scVector Space.hbm Cert.KernelIdeal.S32x16 EltTy.f32)
local notation "sV0" => (Memref.whole Cert.KernelIdeal.cc1_scratch0 : Memref Cert.KernelIdeal.sig Kind.scVector Space.vmem Cert.KernelIdeal.S128 EltTy.f32)
local notation "sV1" => (Memref.whole Cert.KernelIdeal.cc1_scratch1 : Memref Cert.KernelIdeal.sig Kind.scVector Space.vmem Cert.KernelIdeal.S128 EltTy.f32)
local notation "sV2" => (Memref.whole Cert.KernelIdeal.cc1_scratch2 : Memref Cert.KernelIdeal.sig Kind.scVector Space.vmem Cert.KernelIdeal.S128 EltTy.f32)
local notation "sV3" => (Memref.whole Cert.KernelIdeal.cc1_scratch3 : Memref Cert.KernelIdeal.sig Kind.scVector Space.vmem Cert.KernelIdeal.S128 EltTy.f32)
local notation "accV" => (Memref.whole Cert.KernelIdeal.cc1_scratch4 : Memref Cert.KernelIdeal.sig Kind.scVector Space.vmem Cert.KernelIdeal.S16 EltTy.f32)

variable (W : Vals F)

/-! ## The tasks -/

/-- A task's coordinates on the call's grid. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          iV0 (Memref.isWhole_whole _) iV1 (Memref.isWhole_whole _) iV2 (Memref.isWhole_whole _) iV3 (Memref.isWhole_whole _) oV (Memref.isWhole_whole _)
          sV0 (Memref.isWhole_whole _) sV1 (Memref.isWhole_whole _) sV2 (Memref.isWhole_whole _) sV3 (Memref.isWhole_whole _) accV (Memref.isWhole_whole _)
          cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {Wd : Waits sig (HIx 1)} {q : Fin 1} :
    iprop(A ∗ B ∗ C ∗ ∃ W', ⌜∀ p ∈ W', p ∈ Wd ∨ p.2 = none⌝ ∗ owes thr O W')
      ⊢ iprop(A ∗ B ∗ C ∗ ∃ W', ⌜∀ p ∈ W', p ∈ Wd ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task meets the call's obligation. -/
theorem tileObl (hF : (K (F := F)).Facts) : (K (F := F)).TileObl (D (F := F)) 𝒱 (P W) v₀ 0 := by
  intro d c i O Wd hO _ _
  simp only [show (P W).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (coordsV ⟨_, hci.1⟩ ⟨_, hci.2⟩) hF O Wd hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore takes is what its subcores take. -/
theorem vecSplit : (K (F := F)).VecSplit' (P W) 0 := by
  intro d c
  show (bigSep Finset.univ fun s : Fin 16 => preI W d (wid (Fin.cast nCore_zero c) s)) ⊢ |={Set.univ}=> iprop(
      (bigSep Finset.univ fun i : Fin ((K (F := F)).nSub 0) => preI W d (wid (Fin.cast nCore_zero c) (Fin.cast nSub_zero i)))
      ∗ ((bigSep Finset.univ fun i : Fin ((K (F := F)).nSub 0) => postI W d (wid (Fin.cast nCore_zero c) (Fin.cast nSub_zero i)))
          -∗ bigSep Finset.univ fun s : Fin 16 => postI W d (wid (Fin.cast nCore_zero c) s)))
  rw [bigSep_tasks (F := F) (fun i => preI W d (wid (Fin.cast nCore_zero c) i)), bigSep_tasks (F := F) (fun i => postI W d (wid (Fin.cast nCore_zero c) i))]
  iintro H; imodintro
  isplitl [H]; · iexact H
  iintro H; iexact H

/-! ## Dealing the arrays to the workers -/

/-- A worker's number from its SparseCore and subcore. -/
def widEquiv : Fin 2 × Fin 16 ≃ Fin 32 := (Equiv.prodComm (Fin 2) (Fin 16)).trans finProdFinEquiv
theorem widEquiv_apply (c : Fin 2) (s : Fin 16) : widEquiv (c, s) = wid c s := by
  refine Fin.ext ?_
  show c.val + 2 * s.val = 2 * s.val + c.val
  omega

omit [FloatOps F] in
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  exact bigSep_congr fun c _ => bigSep_congr fun s _ => congrArg Φ (widEquiv_apply c s)

theorem iSet_disjoint : ∀ i ∈ (Finset.univ : Finset (Fin 32)), ∀ j ∈ (Finset.univ : Finset (Fin 32)), i ≠ j → Disjoint (iSet i) (iSet j) :=
  fun i _ j _ h => Finset.disjoint_left.mpr fun y hi hj =>
    h (Fin.ext ((Finset.mem_filter.mp hi).2.symm.trans (Finset.mem_filter.mp hj).2))
theorem oSet_disjoint : ∀ i ∈ (Finset.univ : Finset (Fin 32)), ∀ j ∈ (Finset.univ : Finset (Fin 32)), i ≠ j → Disjoint (oSet i) (oSet j) :=
  fun i _ j _ h => Finset.disjoint_left.mpr fun y hi hj =>
    h (Fin.ext ((Finset.mem_filter.mp hi).2.symm.trans (Finset.mem_filter.mp hj).2))
theorem iSet_cover : (Finset.univ : Finset (Fin 32)).biUnion iSet = Finset.univ :=
  Finset.eq_univ_iff_forall.mpr fun y => Finset.mem_biUnion.mpr
    ⟨⟨(y 0).val / 128, by have h : (y 0).val < 4096 := (y 0).isLt; omega⟩, Finset.mem_univ _, Finset.mem_filter.mpr ⟨Finset.mem_univ _, rfl⟩⟩
theorem oSet_cover : (Finset.univ : Finset (Fin 32)).biUnion oSet = Finset.univ :=
  Finset.eq_univ_iff_forall.mpr fun y => Finset.mem_biUnion.mpr ⟨y 0, Finset.mem_univ _, Finset.mem_filter.mpr ⟨Finset.mem_univ _, rfl⟩⟩

omit [FloatOps F] in
theorem iPts0 (d : Dev nD) (f : Buf (Elt F) (iLoc0 d)) :
    (iLoc0 d ↦{fullShare} f : sProp 𝕄) = bigSep Finset.univ fun i : Fin 32 => iLoc0 d ↦[iSet i]{fullShare} f := by
  rw [← pointsTo_biUnion Finset.univ (ℓ := iLoc0 d) iSet iSet_disjoint, iSet_cover]; try rfl
omit [FloatOps F] in
theorem iPts1 (d : Dev nD) (f : Buf (Elt F) (iLoc1 d)) :
    (iLoc1 d ↦{fullShare} f : sProp 𝕄) = bigSep Finset.univ fun i : Fin 32 => iLoc1 d ↦[iSet i]{fullShare} f := by
  rw [← pointsTo_biUnion Finset.univ (ℓ := iLoc1 d) iSet iSet_disjoint, iSet_cover]; try rfl
omit [FloatOps F] in
theorem iPts2 (d : Dev nD) (f : Buf (Elt F) (iLoc2 d)) :
    (iLoc2 d ↦{fullShare} f : sProp 𝕄) = bigSep Finset.univ fun i : Fin 32 => iLoc2 d ↦[iSet i]{fullShare} f := by
  rw [← pointsTo_biUnion Finset.univ (ℓ := iLoc2 d) iSet iSet_disjoint, iSet_cover]; try rfl
omit [FloatOps F] in
theorem iPts3 (d : Dev nD) (f : Buf (Elt F) (iLoc3 d)) :
    (iLoc3 d ↦{fullShare} f : sProp 𝕄) = bigSep Finset.univ fun i : Fin 32 => iLoc3 d ↦[iSet i]{fullShare} f := by
  rw [← pointsTo_biUnion Finset.univ (ℓ := iLoc3 d) iSet iSet_disjoint, iSet_cover]; try rfl
omit [FloatOps F] in
theorem oPts (d : Dev nD) (f : Buf (Elt F) (oLoc d)) :
    (oLoc d ↦{fullShare} f : sProp 𝕄) = bigSep Finset.univ fun i : Fin 32 => oLoc d ↦[oSet i]{fullShare} f := by
  rw [← pointsTo_biUnion Finset.univ (ℓ := oLoc d) oSet oSet_disjoint, oSet_cover]; try rfl

/-- The four arrays and the result, whole, are what the workers hold of them. -/
theorem workers_eq (d : Dev nD) (f : Buf (Elt F) (oLoc d)) :
    (bigSep Finset.univ fun i : Fin 32 => iprop(inPts W d i ∗ outPts d i f) : sProp 𝕄)
      = iprop(((iLoc0 d ↦{fullShare} W d main_v0_0) ∗ (iLoc1 d ↦{fullShare} W d main_v0_1)
          ∗ (iLoc2 d ↦{fullShare} W d main_v0_2) ∗ (iLoc3 d ↦{fullShare} W d main_v0_3)) ∗ (oLoc d ↦{fullShare} f)) := by
  rw [bigSep_sep', bigSep_sep', bigSep_sep', bigSep_sep', ← iPts0, ← iPts1, ← iPts2, ← iPts3, ← oPts]

/-- What the call takes, over the SparseCores; -/
theorem st_eq (d : Dev nD) : (bigSep Finset.univ fun c : Fin ((K (F := F)).nCore 0) => (P W).st 0 d c)
      = iprop(((iLoc0 d ↦{fullShare} W d main_v0_0) ∗ (iLoc1 d ↦{fullShare} W d main_v0_1)
          ∗ (iLoc2 d ↦{fullShare} W d main_v0_2) ∗ (iLoc3 d ↦{fullShare} W d main_v0_3)) ∗ (oLoc d ↦{fullShare} W d main_v1)) := by
  rw [← workers_eq, bigSep_workers]
  exact bigSep_congr fun c _ => rfl
/-- and what it hands back. -/
theorem dn_eq (d : Dev nD) : (bigSep Finset.univ fun c : Fin ((K (F := F)).nCore 0) => (P W).dn 0 d c)
      = iprop(((iLoc0 d ↦{fullShare} W d main_v0_0) ∗ (iLoc1 d ↦{fullShare} W d main_v0_1)
          ∗ (iLoc2 d ↦{fullShare} W d main_v0_2) ∗ (iLoc3 d ↦{fullShare} W d main_v0_3)) ∗ (oLoc d ↦{fullShare} scRes W d)) := by
  rw [← workers_eq, bigSep_workers]
  exact bigSep_congr fun c _ => rfl

end Cert.KernelIdeal.Run

end
-- ==== Proof.KI.Launch.lean ====
/-
  The run of the whole program: the mining call, the SparseCore call, the sum, the reshape — from any launch memory, to
  quiet counters, the arguments as they were and the result at a stated value.
-/
module

public import proofs.«01_k».proof.Proof.KI.Regions
public import proofs.«01_k».proof.Proof.KI.Call

@[expose] public section

noncomputable section

namespace Cert.KernelIdeal.Run

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.ValueKit
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## The buffers' contents along the program -/

/-- What the TensorCore owes the SparseCores before and after the SparseCore call. -/
abbrev O0 (d : Dev nD) : CellTallies nD τ sig (HIx 1) := (K (F := F)).Otc d 0
abbrev O1 (d : Dev nD) : CellTallies nD τ sig (HIx 1) := (K (F := F)).Otc d 1

/-- At launch; -/
abbrev V0 : Vals F := fun c b => m ((c : Thread nD τ).loc b)
/-- after the mining call; -/
def V1 : Vals F := fun c =>
  Function.update (Function.update (Function.update (Function.update (V0 m c)
    main_v0_0 ((dat0 (V0 m) (O0 (F := F)) (recs (F := F) (8 * 0)) c).arrAt 2 cfg0.N))
    main_v0_1 ((dat0 (V0 m) (O0 (F := F)) (recs (F := F) (8 * 0)) c).arrAt 3 cfg0.N))
    main_v0_2 ((dat0 (V0 m) (O0 (F := F)) (recs (F := F) (8 * 0)) c).arrAt 4 cfg0.N))
    main_v0_3 ((dat0 (V0 m) (O0 (F := F)) (recs (F := F) (8 * 0)) c).arrAt 5 cfg0.N)
/-- after the SparseCore call; -/
def V2 : Vals F := fun c => Function.update (V1 m c) main_v1 (scRes (V1 m) c)
/-- after the sum. -/
def V3 : Vals F := fun c => Function.update (V2 m c) main_v2 ((dat2 (V2 m) (O1 (F := F)) (recs (F := F) (8 * 1)) c).arrAt 1 cfg2.N)
/-- The program's result. -/
def out (c : Dev nD) : Buf (Elt F) ((c : Thread nD τ).loc main_v3) :=
  shapeCast (α := Elt F .f32) S_ (V3 m c main_v2) shapeCasts_S1x1_S_

theorem Otc_none (n : ℕ) (d : Dev nD) (g : GSem nD τ sig) : (K (F := F)).Otc (N := 1) d n g none = 0 := by
  by_contra h
  have h' := SparseCore.Cfg.lev_of_Otc_pos (K := K (F := F)) (N := 1) (d := d) (n := n) (g := g) (ι := none) (Nat.pos_of_ne_zero h)
  exact absurd h' (by simp)

theorem V1_arr (c : Dev nD) : ∀ w, V1 m c (Pipeline.arrRef spec0 w) = (dat0 (F := F) (V0 m) (O0 (F := F)) (recs (F := F) (8 * 0)) c).arrAt w cfg0.N
  | 0 => ((Function.update_of_ne (show main_arg0 ≠ main_v0_3 by decide) _ _).trans ((Function.update_of_ne (show main_arg0 ≠ main_v0_2 by decide) _ _).trans
      ((Function.update_of_ne (show main_arg0 ≠ main_v0_1 by decide) _ _).trans (Function.update_of_ne (show main_arg0 ≠ main_v0_0 by decide) _ _)))).trans
      ((dat0 (F := F) (V0 m) (O0 (F := F)) (recs (F := F) (8 * 0)) c).arrAt_in 0 rfl _).symm
  | 1 => ((Function.update_of_ne (show main_arg1 ≠ main_v0_3 by decide) _ _).trans ((Function.update_of_ne (show main_arg1 ≠ main_v0_2 by decide) _ _).trans
      ((Function.update_of_ne (show main_arg1 ≠ main_v0_1 by decide) _ _).trans (Function.update_of_ne (show main_arg1 ≠ main_v0_0 by decide) _ _)))).trans
      ((dat0 (F := F) (V0 m) (O0 (F := F)) (recs (F := F) (8 * 0)) c).arrAt_in 1 rfl _).symm
  | 2 => (Function.update_of_ne (show main_v0_0 ≠ main_v0_3 by decide) _ _).trans ((Function.update_of_ne (show main_v0_0 ≠ main_v0_2 by decide) _ _).trans
      ((Function.update_of_ne (show main_v0_0 ≠ main_v0_1 by decide) _ _).trans (Function.update_self _ _ _)))
  | 3 => (Function.update_of_ne (show main_v0_1 ≠ main_v0_3 by decide) _ _).trans ((Function.update_of_ne (show main_v0_1 ≠ main_v0_2 by decide) _ _).trans
      (Function.update_self _ _ _))
  | 4 => (Function.update_of_ne (show main_v0_2 ≠ main_v0_3 by decide) _ _).trans (Function.update_self _ _ _)
  | 5 => Function.update_self _ _ _

theorem V1_ne (c : Dev nD) (r : Ref sig .tc) (h : ∀ w, r ≠ Pipeline.arrRef spec0 w) : V1 m c r = V0 m c r :=
  (Function.update_of_ne (h 5) _ _).trans ((Function.update_of_ne (h 4) _ _).trans ((Function.update_of_ne (h 3) _ _).trans (Function.update_of_ne (h 2) _ _)))

theorem V3_arr (c : Dev nD) : ∀ w, V3 m c (Pipeline.arrRef spec2 w) = (dat2 (F := F) (V2 m) (O1 (F := F)) (recs (F := F) (8 * 1)) c).arrAt w cfg2.N
  | 0 => (Function.update_of_ne (show main_v1 ≠ main_v2 by decide) _ _).trans
      ((dat2 (F := F) (V2 m) (O1 (F := F)) (recs (F := F) (8 * 1)) c).arrAt_in 0 rfl _).symm
  | 1 => Function.update_self _ _ _

theorem V3_ne (c : Dev nD) (r : Ref sig .tc) (h : ∀ w, r ≠ Pipeline.arrRef spec2 w) : V3 m c r = V2 m c r :=
  Function.update_of_ne (h 1) _ _

theorem V1_arg0 (c : Dev nD) : V1 m c main_arg0 = V0 m c main_arg0 :=
  (V1_arr m c 0).trans ((dat0 (F := F) (V0 m) (O0 (F := F)) (recs (F := F) (8 * 0)) c).arrAt_in 0 rfl _)
theorem V1_arg1 (c : Dev nD) : V1 m c main_arg1 = V0 m c main_arg1 :=
  (V1_arr m c 1).trans ((dat0 (F := F) (V0 m) (O0 (F := F)) (recs (F := F) (8 * 0)) c).arrAt_in 1 rfl _)
theorem V3_arg0 (c : Dev nD) : V3 m c main_arg0 = V0 m c main_arg0 :=
  (Function.update_of_ne (show main_arg0 ≠ main_v2 by decide) _ _).trans ((Function.update_of_ne (show main_arg0 ≠ main_v1 by decide) _ _).trans (V1_arg0 m c))
theorem V3_arg1 (c : Dev nD) : V3 m c main_arg1 = V0 m c main_arg1 :=
  (Function.update_of_ne (show main_arg1 ≠ main_v2 by decide) _ _).trans ((Function.update_of_ne (show main_arg1 ≠ main_v1 by decide) _ _).trans (V1_arg1 m c))

/-! ## The launch element of the ghost state -/

/-- The pipelines' ghost state of one core. -/
abbrev G (d : Dev nD) : sProp 𝕄 :=
  iprop((bigSep Finset.univ fun p : Fin 2 => Pipeline.cellsGhost (Pipeline.pin (pcfgs (F := F)) adm) (EP (F := F)) p d)
    ∗ bigSep Finset.univ fun p : Fin 2 => Pipeline.toksInit (Pipeline.pin (pcfgs (F := F)) adm) (EP (F := F)) p d)

def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

omit [FloatOps F] in
theorem bigSep_two (Φ : Fin 2 → sProp 𝕄) : bigSep Finset.univ Φ = iprop(Φ 0 ∗ Φ 1) := BI.bigSep_fin_two Φ
omit [FloatOps F] in
theorem bigSep_emp' {I : Type} (s : Finset I) : (bigSep s fun _ => iprop(emp)) = (iprop(emp) : sProp 𝕄) := bigSep_emp_const s

theorem hu₀ (W : Vals F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P W).x q thr) := by
  unfold u₀
  iintro Hu
  ihave H := (ownU_pair (initOf (K (F := F)).hsCells (K (F := F)).hsToks,
    initOf (Pipeline.cells (Pipeline.pin (pcfgs (F := F)) adm) cellOf_inj) (Pipeline.launchToks (Pipeline.pin (pcfgs (F := F)) adm) cellOf_inj)) (1 : Counters)) $$ Hu
  icases H with ⟨HL, -⟩
  ihave H := (own_pair_emb embL (initOf (K (F := F)).hsCells (K (F := F)).hsToks)
    (initOf (Pipeline.cells (Pipeline.pin (pcfgs (F := F)) adm) cellOf_inj) (Pipeline.launchToks (Pipeline.pin (pcfgs (F := F)) adm) cellOf_inj))) $$ HL
  icases H with ⟨HH, HP'⟩
  ihave HP := (Entails.of_eq (show (BI.own (((Emb.inr : Emb (UR sig nD τ) (UH × UR sig nD τ)).trans embL)
    (initOf (Pipeline.cells (Pipeline.pin (pcfgs (F := F)) adm) cellOf_inj) (Pipeline.launchToks (Pipeline.pin (pcfgs (F := F)) adm) cellOf_inj))) : sProp 𝕄)
      = BI.own (EP (F := F) (initOf (Pipeline.cells (Pipeline.pin (pcfgs (F := F)) adm) cellOf_inj) (Pipeline.launchToks (Pipeline.pin (pcfgs (F := F)) adm) cellOf_inj))) from rfl)) $$ HP'
  imod (Pipeline.fund_ghost (Pipeline.pin (pcfgs (F := F)) adm) (EP (F := F)) cellOf_inj) $$ HP with ⟨HG, HT⟩
  imodintro
  isplitl [HH]; · iexact HH
  isplitl [HG HT]
  · unfold G
    rw [bigSep_sep']
    isplitl [HG] <;> iassumption
  rw [show (bigSep Finset.univ fun thr : Thread nD τ => bigSep Finset.univ fun q : Fin 1 => (P (F := F) W).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (iLoc0 d ↦{fullShare} W main_v0_0) ∗ (iLoc1 d ↦{fullShare} W main_v0_1) ∗ (iLoc2 d ↦{fullShare} W main_v0_2) ∗ (iLoc3 d ↦{fullShare} W main_v0_3)
      ∗ (oLoc d ↦{fullShare} W main_v1) ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_v0_0, main_v0_1, main_v0_2, main_v0_3, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The reshape. -/
abbrev opR : HloOp τ sig (Elt F) := StableHlo.reshape main_v2 main_v3 (rfl : (.f32 : EltTy) = .f32) shapeCasts_S1x1_S_
abbrev v2' : DevRef τ sig := Proc.devRef .tc main_v2
abbrev v3' : DevRef τ sig := Proc.devRef .tc main_v3
/-- The valuation the reshape reads. -/
abbrev VR (d : Dev nD) : Valuation τ sig (Elt F) := Function.update (fun b => m (d, b)) v2' (V3 m d main_v2)

theorem held_R (d : Dev nD) (V : Valuation τ sig (Elt F)) :
    (held (T d) {v2', v3'} V : sProp 𝕄) = iprop(((SparseCore.T d).loc main_v2 ↦{fullShare} V v2') ∗ (SparseCore.T d).loc main_v3 ↦{fullShare} V v3') := by
  unfold held
  rw [SparseCore.bigSep_insert' (show v2' ∉ ({v3'} : Finset (DevRef τ sig)) by decide), bigSep_singleton]

theorem V3_v3 (d : Dev nD) : V3 m d main_v3 = V0 m d main_v3 :=
  (Function.update_of_ne (show main_v3 ≠ main_v2 by decide) _ _).trans ((Function.update_of_ne (show main_v3 ≠ main_v1 by decide) _ _).trans
    (V1_ne m d main_v3 (by decide)))
theorem VR_v2 (d : Dev nD) : VR m d v2' = V3 m d main_v2 := Function.update_self _ _ _
theorem VR_v3 (d : Dev nD) : VR m d v3' = V3 m d main_v3 := (Function.update_of_ne (show v3' ≠ v2' by decide) _ _).trans (V3_v3 m d).symm
theorem opR_result (d : Dev nD) : (opR (F := F)).result (VR m d) v3' = out m d :=
  (StableHlo.reshape_result main_v2 main_v3 _ _ _ _ _).trans (by rw [VR_v2]; rfl)

/-- What @main leaves the claim: the arguments at their launch contents, the result at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v3 ↦{fullShare} out m d)

/-- The TensorCore's state between calls but what it owes. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt (EH (F := F)) d n : sProp 𝕄)
    = iprop((∃ Wd, ⌜(K (F := F)).WBelow (d : Thread nD τ) Wd (8 * n)⌝ ∗ owes (d : Thread nD τ) ((K (F := F)).Otc d n) Wd) ∗ tcRest d n) := rfl

/-- A TensorCore call of @main, by its region. -/
theorem wp_region (W0 W1 : Vals F) (O : Dev nD → CellTallies nD τ sig (HIx 1)) (b : ℕ) {p : Fin 2}
    (R : Pipeline.RegionSeg (pcfgs (F := F)) adm (pdats W0 W1 O b) (none : HIx 1) defs₀ 𝒱₀ (K (F := F)).L (K (F := F)).lev p)
    (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ())) Q := by
  refine BI.Entails.trans ?_ ((K (F := F)).wp_liftProg (D (F := F)) 𝒱 (SparseCore.T d) Set.univ none (Prog.lift (.customCall (Pipeline.entry p) ())) Q)
  have hr := Pipeline.RegionSeg.wp (pcfgs (F := F)) adm (pdats W0 W1 O b) (none : HIx 1) cellOf_inj (EP (F := F)) defs₀ 𝒱₀
    (K (F := F)).L (K (F := F)).lev R d none (by intro u hu; cases hu) (fun _ => .ret ⟨⟩) Q
  have hk : (iprop(iprop(boundary (d.tc : Thread nD τ) ∗ R.post d) -∗ Q ⟨⟩) : sProp 𝕄)
      ⊢ iprop(iprop(boundary (d.tc : Thread nD τ) ∗ R.post d)
          -∗ wp frame (wpE (D (F := F)) 𝒱 (d.tc : Thread nD τ) none) Set.univ (.ret ⟨⟩) Q) := by
    iintro Hk HP
    rw [wp_ret]
    imodintro
    iapply Hk
    iexact HP
  exact (sep_mono_left hk).trans hr

/-- The mining call, with the buffers at launch; -/
theorem wp_mine (d : Dev nD) (Q : PUnit → sProp 𝕄) :
    iprop((iprop(boundary (d.tc : Thread nD τ) ∗ unscopedBufs d (V1 m d) ∗ emp
          ∗ ∃ Wd, ⌜(K (F := F)).WBelow (d : Thread nD τ) Wd (8 * 0)⌝ ∗ owes (d : Thread nD τ) ((K (F := F)).Otc d 0) Wd) -∗ Q ⟨⟩)
        ∗ boundary (d.tc : Thread nD τ) ∗ iprop(unscopedBufs d (V0 m d) ∗ emp
          ∗ ∃ Wd, ⌜(K (F := F)).WBelow (d : Thread nD τ) Wd (8 * 0)⌝ ∗ owes (d : Thread nD τ) ((K (F := F)).Otc d 0) Wd) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Q :=
  wp_region (V0 m) (V2 m) (O0 (F := F)) (8 * 0)
    (reg0 (V0 m) (V2 m) (O0 (F := F)) (8 * 0) (fun c g => Otc_none 0 c g) (V1 m) (fun _ => iprop(emp)) (V1_arr m) (V1_ne m)) d Q
/-- the sum, with the buffers after the SparseCore call. -/
theorem wp_sum (d : Dev nD) (Q : PUnit → sProp 𝕄) :
    iprop((iprop(boundary (d.tc : Thread nD τ) ∗ unscopedBufs d (V3 m d) ∗ emp
          ∗ ∃ Wd, ⌜(K (F := F)).WBelow (d : Thread nD τ) Wd (8 * 1)⌝ ∗ owes (d : Thread nD τ) ((K (F := F)).Otc d 1) Wd) -∗ Q ⟨⟩)
        ∗ boundary (d.tc : Thread nD τ) ∗ iprop(unscopedBufs d (V2 m d) ∗ emp
          ∗ ∃ Wd, ⌜(K (F := F)).WBelow (d : Thread nD τ) Wd (8 * 1)⌝ ∗ owes (d : Thread nD τ) ((K (F := F)).Otc d 1) Wd) ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ())) Q :=
  wp_region (V0 m) (V2 m) (O1 (F := F)) (8 * 1)
    (reg2 (V0 m) (V2 m) (O1 (F := F)) (8 * 1) (fun c g => Otc_none 1 c g) (V3 m) (fun _ => iprop(emp)) (V3_arr m) (V3_ne m)) d Q

/-- The buffers after the SparseCore call: as before it, but for the call's result. -/
theorem V2_bufs (d : Dev nD) : (unscopedBufs d (V2 m d) : sProp 𝕄) = iprop(((SparseCore.T d).loc main_arg0 ↦{fullShare} V1 m d main_arg0) ∗ ((SparseCore.T d).loc main_arg1 ↦{fullShare} V1 m d main_arg1)
      ∗ (iLoc0 d ↦{fullShare} V1 m d main_v0_0) ∗ (iLoc1 d ↦{fullShare} V1 m d main_v0_1) ∗ (iLoc2 d ↦{fullShare} V1 m d main_v0_2) ∗ (iLoc3 d ↦{fullShare} V1 m d main_v0_3)
      ∗ (oLoc d ↦{fullShare} scRes (V1 m) d) ∗ ((SparseCore.T d).loc main_v2 ↦{fullShare} V1 m d main_v2) ∗ (SparseCore.T d).loc main_v3 ↦{fullShare} V1 m d main_v3) := by
  have hne (r : Ref sig .tc) (h : r ≠ main_v1) : V2 m d r = V1 m d r := Function.update_of_ne h _ _
  rw [unscopedBufs_eq, hne main_arg0 (by decide), hne main_arg1 (by decide), hne main_v0_0 (by decide), hne main_v0_1 (by decide), hne main_v0_2 (by decide),
    hne main_v0_3 (by decide), hne main_v2 (by decide), hne main_v3 (by decide), show V2 m d main_v1 = scRes (V1 m) d from Function.update_self _ _ _]

set_option maxRecDepth 16384 in
/-- @main on device `d`'s TensorCore. -/
theorem hmain (κ : GSem nD τ sig → ℕ) (d : Dev nD) :
    iprop((K (F := F)).ctx EH (P (V1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [bigSep_two, bigSep_two]
  simp only [main, wp_bind, wp_pure]
  iintro ⟨#Hctx, Hst, ⟨Hb, Hub, Hts, -⟩, ⟨G0, G1⟩, T0, T1⟩
  ihave Hlev := (SparseCore.Cfg.ctx_levAts κ) $$ Hctx
  ihave H := (Entails.of_eq (tcSt_eq (F := F) d 0)) $$ Hst
  icases H with ⟨HO, Hrest⟩
  -- the mining call
  iapply (wp_mine m d) $$ [Hb Hub HO G0 T0 Hrest Hts G1 T1]
  isplitr [Hb Hub HO G0 T0]
  swap
  · isplitl [Hb]; · iexact Hb
    isplitl [Hub HO]
    · isplitl [Hub]; · iexact Hub
      isplitr; · iempintro
      iexact HO
    isplitr; · iexact Hlev
    isplitl [G0] <;> iassumption
  iintro ⟨Hb, Hub, -, HO⟩
  -- the SparseCore call
  ihave Hst := (Entails.of_eq (tcSt_eq (F := F) d 0).symm) $$ [HO Hrest]
  · isplitl [HO] <;> iassumption
  ihave H := (Entails.of_eq (unscopedBufs_eq (F := F) d (V1 m d))) $$ Hub
  icases H with ⟨Ha0, Ha1, I0, I1, I2, I3, Ho, H2, H3⟩
  iapply ((K (F := F)).wp_run (D (F := F)) 𝒱 (EH := EH) (P := P (V1 m)) κ d 0) $$ [Hst I0 I1 I2 I3 Ho Ha0 Ha1 H2 H3 Hb Hts G1 T1]
  isplitr; · iexact Hctx
  isplitl [Hst]; · iexact Hst
  isplitl [I0 I1 I2 I3 Ho]
  · rw [st_eq]
    isplitr [Ho]
    · isplitl [I0]; · iexact I0
      isplitl [I1]; · iexact I1
      isplitl [I2] <;> iassumption
    iexact Ho
  iintro ⟨Hst, Hdn⟩
  ihave Hdn' := (Entails.of_eq (dn_eq (V1 m) d)) $$ Hdn
  icases Hdn' with ⟨⟨I0, I1, I2, I3⟩, Ho⟩
  ihave Hub := (Entails.of_eq (V2_bufs m d).symm) $$ [I0 I1 I2 I3 Ho Ha0 Ha1 H2 H3]
  · isplitl [Ha0]; · iexact Ha0
    isplitl [Ha1]; · iexact Ha1
    isplitl [I0]; · iexact I0
    isplitl [I1]; · iexact I1
    isplitl [I2]; · iexact I2
    isplitl [I3]; · iexact I3
    isplitl [Ho]; · iexact Ho
    isplitl [H2] <;> iassumption
  ihave H := (Entails.of_eq (show ((K (F := F)).tcSt (EH (F := F)) d ((0 : Fin 1).val + 1) : sProp 𝕄) = _ from tcSt_eq (F := F) d 1)) $$ Hst
  icases H with ⟨HO, Hrest⟩
  -- the sum
  iapply (wp_sum m d) $$ [Hb Hub HO G1 T1 Hrest Hts]
  isplitr [Hb Hub HO G1 T1]
  swap
  · isplitl [Hb]; · iexact Hb
    isplitl [Hub HO]
    · isplitl [Hub]; · iexact Hub
      isplitr; · iempintro
      iexact HO
    isplitr; · iexact Hlev
    isplitl [G1] <;> iassumption
  iintro ⟨Hb, Hub, -, HO⟩
  ihave Hst := (Entails.of_eq (tcSt_eq (F := F) d 1).symm) $$ [HO Hrest]
  · isplitl [HO] <;> iassumption
  -- the reshape
  ihave H := (Entails.of_eq (unscopedBufs_eq (F := F) d (V3 m d))) $$ Hub
  icases H with ⟨Ha0, Ha1, -, -, -, -, -, H2, H3⟩
  iapply (wp_hlo_within 𝒱 (SparseCore.T d) none Set.univ (op := opR) (S := {v2', v3'}) (subset_refl _) (V := VR m d)) $$ [Hb H2 H3]
  · isplitl [Hb]; · iexact Hb
    rw [held_R, VR_v2, VR_v3]
    isplitl [H2] <;> iassumption
  rw [held_R, opR_result]
  iintro ⟨Hb, -, H3⟩
  rw [wp_ret]; imodintro; imodintro
  isplitl [Hst]; · iexact Hst
  isplitr [Hb Hts]
  · rw [V3_arg0, V3_arg1]
    isplitl [Ha0]; · iexact Ha0
    isplitl [Ha1]; · iexact Ha1
    iexact H3
  isplitl [Hb] <;> iassumption

/-! ## The program's run -/

/-- What the claim reads of device `d`'s final state. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v3) = out m d

set_option maxRecDepth 16384 in
theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v3) (I := Finset.univ) (q := fullShare) (f := out m d)) $$ [HSI H3]
  · isplitl [HSI] <;> iassumption
  icases H with %h3
  ipureintro
  exact ⟨funext fun i => h0 i (Finset.mem_univ i), funext fun i => h1 i (Finset.mem_univ i), funext fun i => h3 i (Finset.mem_univ i)⟩

/-- What a run ends with: the arguments as they were, the result at its value, every counter at zero. -/
def QC : PUnit × MemSt nD τ sig (Elt F) → Prop := fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v3) = out m c) ∧ r.2.sem = fun _ => 0

/-- The program runs to that from any launch memory. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V1 m)) (A := ∅) facts v₀
    (fun q hq => match q with | 0 => nomatch hq)
    (fun q _ => match q with | 0 => tileObl (V1 m) facts)
    (fun q _ => match q with | 0 => SparseCore.Cfg.VecSplit.of_plain (vecSplit (V1 m)))
    m ρ main (fun d => G (F := F) d) (FIN m) (u₀ (F := F)) (sep_elim_left.trans (hu₀ (V1 m))) (hmain m ρ) (fq m) (hfin m) (QC m) (fun _ h hz => ⟨h, hz⟩)

end Cert.KernelIdeal.Run

end
-- ==== Proof.Val.Math.lean ====
/- The mathematics of the loss, over the real numbers: the hardest entries of a row, the first place where each stands,
   and the loss of a row in the kernel's form and in the reference's. -/
module

public import Idealize.ShloMosaic.PureOps.Ideal

@[expose] public section

noncomputable section

namespace Cert.Val

open scoped BigOperators

/-! ## The first place where a function is least -/

/-- `j` is the first place where `f` is least. -/
def IsFirst (f : Fin 4096 → ℝ) (j : Fin 4096) : Prop := (∀ k, f j ≤ f k) ∧ ∀ k, k < j → f j < f k

theorem exists_first (f : Fin 4096 → ℝ) : ∃ j, IsFirst f j := by
  obtain ⟨a, ha⟩ := Finite.exists_min f
  let s : Finset (Fin 4096) := Finset.univ.filter fun k => f k = f a
  have hs : s.Nonempty := ⟨a, Finset.mem_filter.mpr ⟨Finset.mem_univ _, rfl⟩⟩
  have hj : f (s.min' hs) = f a := (Finset.mem_filter.mp (s.min'_mem hs)).2
  refine ⟨s.min' hs, fun k => hj ▸ ha k, fun k hk => ?_⟩
  rw [hj]
  refine lt_of_le_of_ne (ha k) fun e => ?_
  exact absurd (s.min'_le k (Finset.mem_filter.mpr ⟨Finset.mem_univ _, e.symm⟩)) (not_le.mpr hk)

theorem IsFirst.unique {f : Fin 4096 → ℝ} {i j : Fin 4096} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

/-- The first place where `f` is least. -/
def first (f : Fin 4096 → ℝ) : Fin 4096 := Classical.choose (exists_first f)

theorem first_spec (f : Fin 4096 → ℝ) : IsFirst f (first f) := Classical.choose_spec (exists_first f)

/-- The least value from +∞ is the value at the first place. -/
theorem fold_min_first (f : Fin 4096 → ℝ) :
    (Finset.univ.fold min (⊤ : EReal) fun k => (f k : EReal)) = (f (first f) : EReal) := by
  apply le_antisymm
  · exact (Finset.fold_min_le _).mpr (Or.inr ⟨first f, Finset.mem_univ _, le_rfl⟩)
  · exact (Finset.le_fold_min _).mpr ⟨le_top, fun k _ => EReal.coe_le_coe_iff.mpr ((first_spec f).1 k)⟩

/-- The greatest value from −∞ is the value at the first place where the negation is least. -/
theorem fold_max_first (f : Fin 4096 → ℝ) :
    (Finset.univ.fold max (⊥ : EReal) fun k => (f k : EReal)) = (f (first fun k => -f k) : EReal) := by
  apply le_antisymm
  · exact (Finset.fold_max_le _).mpr ⟨bot_le, fun k _ => EReal.coe_le_coe_iff.mpr (neg_le_neg_iff.mp ((first_spec fun k => -f k).1 k))⟩
  · exact (Finset.le_fold_max _).mpr (Or.inr ⟨_, Finset.mem_univ _, le_rfl⟩)

/-- The least of the numbers of the places where `f` takes the value that it takes at `j`, every other place counted as
    some number `B` that is too large: the number of `j`, when `j` is the first such place. -/
theorem fold_min_place (f : Fin 4096 → ℝ) (j : Fin 4096) (hj : ∀ k, k < j → f k ≠ f j) (B : EReal)
    (hB : ((4096 : ℝ) : EReal) ≤ B) :
    (Finset.univ.fold min (⊤ : EReal) fun k : Fin 4096 => if (f k : EReal) = (f j : EReal) then ((k.val : ℝ) : EReal) else B)
      = ((j.val : ℝ) : EReal) := by
  apply le_antisymm
  · exact (Finset.fold_min_le _).mpr (Or.inr ⟨j, Finset.mem_univ _, by rw [if_pos rfl]⟩)
  · refine (Finset.le_fold_min _).mpr ⟨le_top, fun k _ => ?_⟩
    split
    · rename_i h
      have hk : ¬ k < j := fun hlt => hj k hlt (EReal.coe_eq_coe_iff.mp h)
      exact EReal.coe_le_coe_iff.mpr (Nat.cast_le.mpr (Fin.le_def.mp (not_lt.mp hk)))
    · refine le_trans (EReal.coe_le_coe_iff.mpr ?_) hB
      have := j.isLt
      exact_mod_cast this.le

/-- A sum that keeps one place alone. -/
theorem sum_place (y : Fin 4096 → ℝ) (j : Fin 4096) :
    (∑ k : Fin 4096, (if ((k.val : ℝ) : EReal) = ((j.val : ℝ) : EReal) then (y k : EReal) else 0)) = (y j : EReal) := by
  rw [Finset.sum_eq_single j]
  · rw [if_pos rfl]
  · intro k _ hk
    rw [if_neg]
    intro h
    exact hk (Fin.ext (Nat.cast_injective (R := ℝ) (EReal.coe_eq_coe_iff.mp h)))
  · intro h; exact absurd (Finset.mem_univ _) h

/-! ## The rows -/

/-- A row of similarities with the penalty on all but its own place, and with the negative penalty on its own place. -/
def posRow (X : Fin 4096 → Fin 4096 → ℝ) (r j : Fin 4096) : ℝ := X r j + if j = r then 0 else 9999999
def negRow (X : Fin 4096 → Fin 4096 → ℝ) (r j : Fin 4096) : ℝ := X r j + if j = r then -9999999 else 0

/-- Where the hardest positive and the hardest negative of a row stand. -/
def posAt (X : Fin 4096 → Fin 4096 → ℝ) (r : Fin 4096) : Fin 4096 := first (posRow X r)
def negAt (X : Fin 4096 → Fin 4096 → ℝ) (r : Fin 4096) : Fin 4096 := first fun j => -negRow X r j

/-- The hardest positive and the hardest negative. -/
def hardP (X : Fin 4096 → Fin 4096 → ℝ) (r : Fin 4096) : ℝ := posRow X r (posAt X r)
def hardN (X : Fin 4096 → Fin 4096 → ℝ) (r : Fin 4096) : ℝ := negRow X r (negAt X r)

/-! ## The loss of a row -/

/-- The logarithm of the sum of two exponentials, the greater taken out. -/
def lse (p n : ℝ) : ℝ := max p n + Real.log (Real.exp (p - max p n) + Real.exp (n - max p n))

/-- The weight of the first of two, as a logistic function of their difference. -/
def weight (g h : ℝ) : ℝ := 1 * (1 / (1 + Real.exp (h - g)))

/-- A row's part of the loss as the kernel computes it. -/
def lossK (p n g h : ℝ) : ℝ :=
  weight g h * ((p - lse p n) * (-(1 / 4096))) + (1 - weight g h) * ((n - lse p n) * (-(1 / 4096)))

/-- One of a row's two parts of the loss as the reference computes it: of the pairs `(p, n)` and `(g, h)` the member `u`
    and the member `v`. -/
def lossR (p n u g h v : ℝ) : ℝ :=
  -(Real.exp (v - max g h) * (1 / (Real.exp (g - max g h) + Real.exp (h - max g h))))
    * (u - max p n - Real.log (Real.exp (p - max p n) + Real.exp (n - max p n)))

/-- The two forms are equal. -/
theorem lossK_eq (p n g h : ℝ) : lossK p n g h = (lossR p n p g h g + lossR p n n g h h) * (1 / 4096) := by
  have hw : weight g h = Real.exp (g - max g h) * (1 / (Real.exp (g - max g h) + Real.exp (h - max g h))) := by
    unfold weight
    rw [Real.exp_sub, Real.exp_sub, Real.exp_sub]
    have := Real.exp_pos g; have := Real.exp_pos h; have := Real.exp_pos (max g h)
    field_simp
  have hv : 1 - weight g h = Real.exp (h - max g h) * (1 / (Real.exp (g - max g h) + Real.exp (h - max g h))) := by
    rw [hw]
    have := Real.exp_pos (g - max g h); have := Real.exp_pos (h - max g h)
    field_simp
    ring
  unfold lossK lossR
  rw [hv, hw]
  unfold lse
  ring

end Cert.Val

end
-- ==== Proof.Val.Lit.lean ====
/- The float words of the two programs, as the numbers that they are. -/
module

public import Idealize.ShloMosaic.Lib.IdealHost
public import proofs.«01_k».proof.Proof.Val.Math

@[expose] public section

noncomputable section

namespace Cert.Val

open Idealize.ShloMosaic

/-- The penalty, and its negative. -/
theorem ofBits_penalty : Ideal.ofBits .f32 0x4B18967F#32 = ((9999999 : ℝ) : EReal) := by
  simp [Ideal.ofBits, Ideal.ieee, -EReal.coe_mul, -EReal.coe_neg, -EReal.coe_pow] <;> norm_num
theorem ofBits_neg_penalty : Ideal.ofBits .f32 0xCB18967F#32 = ((-9999999 : ℝ) : EReal) := by
  simp [Ideal.ofBits, Ideal.ieee, -EReal.coe_mul, -EReal.coe_neg, -EReal.coe_pow] <;> norm_num
/-- The number of rows, and the negative of its inverse. -/
theorem ofBits_rows : Ideal.ofBits .f32 0x45800000#32 = ((4096 : ℝ) : EReal) := by
  simp [Ideal.ofBits, Ideal.ieee, -EReal.coe_mul, -EReal.coe_neg, -EReal.coe_pow] <;> norm_num
theorem ofBits_scale : Ideal.ofBits .f32 0xB9800000#32 = ((-(1 / 4096) : ℝ) : EReal) := by
  simp [Ideal.ofBits, Ideal.ieee, -EReal.coe_mul, -EReal.coe_neg, -EReal.coe_pow] <;> norm_num
/-- The infinities. -/
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
/-- The number that stands for no place is larger than every place's. -/
theorem ofBits_big : ((4096 : ℝ) : EReal) ≤ Ideal.ofBits .f32 0x7F61B1E6#32 := by
  simp [Ideal.ofBits, Ideal.ieee, -EReal.coe_mul, -EReal.coe_neg, -EReal.coe_pow] <;> norm_num
theorem ofBits_one : Ideal.ofBits .f32 0x3F800000#32 = ((1 : ℝ) : EReal) := by
  simp [Ideal.ofBits, Ideal.ieee, -EReal.coe_mul, -EReal.coe_neg, -EReal.coe_pow] <;> norm_num
theorem ofBits_zero : Ideal.ofBits .f32 0x00000000#32 = ((0 : ℝ) : EReal) := by simp [Ideal.ofBits, Ideal.ieee]

/-! ## Maxima, exponentials and logarithms of reals -/

theorem max_coe (p n : ℝ) : max (p : EReal) (n : EReal) = ((max p n : ℝ) : EReal) :=
  (EReal.coe_strictMono.monotone.map_max).symm

/-- The two exponentials of a pair, its maximum taken out, and their sum. -/
theorem expSum_coe (p n : ℝ) :
    Ideal.exp ((p : EReal) - ((max p n : ℝ) : EReal)) + Ideal.exp ((n : EReal) - ((max p n : ℝ) : EReal))
      = ((Real.exp (p - max p n) + Real.exp (n - max p n) : ℝ) : EReal) := by
  rw [← EReal.coe_sub, ← EReal.coe_sub, Ideal.exp_coe, Ideal.exp_coe, ← EReal.coe_add]

theorem logSum_coe (p n : ℝ) :
    Ideal.log ((Real.exp (p - max p n) + Real.exp (n - max p n) : ℝ) : EReal)
      = ((Real.log (Real.exp (p - max p n) + Real.exp (n - max p n)) : ℝ) : EReal) := by
  rw [Ideal.log_coe, if_neg (not_le.mpr (add_pos (Real.exp_pos _) (Real.exp_pos _)))]

theorem lse_coe (p n : ℝ) :
    max (p : EReal) (n : EReal) + Ideal.log (Ideal.exp ((p : EReal) - max (p : EReal) (n : EReal))
        + Ideal.exp ((n : EReal) - max (p : EReal) (n : EReal))) = ((lse p n : ℝ) : EReal) := by
  rw [max_coe, expSum_coe, logSum_coe, ← EReal.coe_add, lse]

end Cert.Val

end
-- ==== Proof.Val.Pre.lean ====
/-
  What the precondition says: every element of the two matrices is a real number.
-/
module

public import Idealize.ShloMosaic.Lib.Pointwise
public import proofs.«01_k».proof.Pre_finite
public import proofs.«01_k».proof.Proof.Val.Lit

@[expose] public section

noncomputable section

namespace Cert.Pre_finite.Gen

open Idealize.ShloMosaic

instance facts : Cert.Pre_finite.Facts where
  bcast_S_S4096x4096 := by decide
  reducesTo_S4096x4096_S_d0_1 := by decide
  h_S_ := by decide

end Cert.Pre_finite.Gen

namespace Cert.Val

open Idealize.ShloMosaic Cert.Pre_finite

/-- A conjunction of bits is set only if each is. -/
theorem andi_one {a b : BitVec 1} (h : IntOp.andi a b = 1#1) : a = 1#1 ∧ b = 1#1 := by
  revert a b; decide

theorem fold_andi {ι : Type} [Fintype ι] [DecidableEq ι] (f : ι → BitVec 1) (h : Finset.univ.fold IntOp.andi 1#1 f = 1#1) (k : ι) :
    f k = 1#1 := by
  rw [← Finset.insert_erase (Finset.mem_univ k), Finset.fold_insert (Finset.notMem_erase k _)] at h
  exact (andi_one h).1

/-- A number whose absolute value is below +∞ is real. -/
theorem real_of_bit {v : EReal} (h : BitVec.ofBool (decide ((FloatOps.absf (F := Ideal) (φ := .f32) v : EReal) < Ideal.ofBits .f32 0x7F800000#32)) = 1#1) :
    ∃ a : ℝ, v = (a : EReal) := by
  rw [ofBits_top] at h
  have hlt : (FloatOps.absf (F := Ideal) (φ := .f32) v : EReal) < ⊤ := by
    by_contra hn
    rw [decide_eq_false hn] at h
    exact absurd h (by decide)
  induction v with
  | bot => exact absurd hlt (by simp [FloatOps.absf])
  | top => exact absurd hlt (by simp [FloatOps.absf])
  | coe a => exact ⟨a, rfl⟩

/-- Two finite matrices are matrices of reals. -/
theorem finite_real (x y : FVec Ideal S4096x4096 .f32) (h : Cert.Pre_finite.fn (F := Ideal) x y = fun _ => 1#1) :
    ∃ X Y : Fin 4096 → Fin 4096 → ℝ, (∀ q b, x (ix2 q b) = ((X q b : ℝ) : EReal)) ∧ ∀ q b, y (ix2 q b) = ((Y q b : ℝ) : EReal) := by
  have hj : Cert.Pre_finite.fn (F := Ideal) x y (fun a => a.elim0) = 1#1 := congrFun h _
  revert hj
  pointwise [Cert.Pre_finite.fn]
  intro hj
  have hx := fun q b => real_of_bit (fold_andi _ (andi_one hj).1 (q, b))
  have hy := fun q b => real_of_bit (fold_andi _ (andi_one hj).2 (q, b))
  choose X hX using hx
  choose Y hY using hy
  exact ⟨X, Y, hX, hY⟩

end Cert.Val

end
-- ==== Proof.Val.RefTerm.lean ====
/-
  The reference's composed term, in named stages: the two penalized matrices, each row's least value and its place, the
  value taken at the place, and the weighted loss of the two pairs.
-/
module

public import proofs.«01_k».proof.Proof.Gen.ReferenceIdeal.Run
public import Idealize.ShloMosaic.Lib.IdealHost

@[expose] public section

noncomputable section

namespace Cert.Val.Ref

open Idealize.ShloMosaic Cert.ReferenceIdeal Cert.ReferenceIdeal.Gen Cert.ReferenceIdeal.Value
open Idealize.ShloMosaic.TcCoe

/-- One on the diagonal, zero off it. -/
def diag : FVec Ideal S4096x4096 .f32 :=
  uitofp .f32 (cmpi .eq (addi (iotaInDim S4096x4096 32 0) (broadcastInDim S4096x4096 ![] bcast_S_S4096x4096 (constantI S_ 32 0#32)))
    (iotaInDim S4096x4096 32 1))
/-- The matrix with the penalty off the diagonal; with the negative penalty on it. -/
def pos (x : FVec Ideal S4096x4096 .f32) : FVec Ideal S4096x4096 .f32 :=
  addf x (mulf (broadcastInDim S4096x4096 ![] bcast_S_S4096x4096 (constant S_ .f32 0x4B18967F#32))
    (subf (broadcastInDim S4096x4096 ![] bcast_S_S4096x4096 (constant S_ .f32 0x3F800000#32)) diag))
def neg (x : FVec Ideal S4096x4096 .f32) : FVec Ideal S4096x4096 .f32 :=
  addf x (mulf (broadcastInDim S4096x4096 ![] bcast_S_S4096x4096 (constant S_ .f32 0xCB18967F#32)) diag)

/-- A column, through the vector of its elements. -/
def col {α : Type} (v : S4096x1.Idx → α) : S4096x1.Idx → α :=
  broadcastInDim S4096x1 ![0] bcast_S4096_S4096x1_0 (shapeCast S4096 v shapeCasts_S4096x1_S4096)
/-- The first column of a matrix. -/
def head {α : Type} (x : S4096x4096.Idx → α) : S4096x1.Idx → α :=
  extractStridedSlice S4096x1 ![0, 0] x slices_S4096x4096_S4096x1_0_0

/-- The least value of each row, and its place. -/
def least (x : FVec Ideal S4096x4096 .f32) : FVec Ideal S4096x4096 .f32 := Host.sort S4096x4096 1 comparator_f32_d1 x
def leastAt (x : FVec Ideal S4096x4096 .f32) : IVec S4096x4096 32 :=
  (Host.sort2 S4096x4096 1 comparator_f32_i32_d1 x (iotaInDim S4096x4096 32 1)).2

/-- A column of places, a negative one counted from the row's end. -/
def wrap (i : IVec S4096x1 32) : IVec S4096x1x1 32 :=
  shapeCast S4096x1x1 (select (cmpi .slt i (broadcastInDim S4096x1 ![] bcast_S_S4096x1 (constantI S_ 32 0#32)))
    (addi i (broadcastInDim S4096x1 ![] bcast_S_S4096x1 (constantI S_ 32 4096#32))) i) shapeCasts_S4096x1_S4096x1x1
/-- Whether each place is one of the row. -/
def inside (i : IVec S4096x1x1 32) : IVec S4096x1 1 :=
  Host.reduce IntOp.andi (andi (cmpi .sge i (broadcastInDim S4096x1x1 ![] bcast_S_S4096x1x1 (constantI S_ 32 0#32)))
      (cmpi .sle i (broadcastInDim S4096x1x1 ![0, 1, 2] bcast_S1x1x1_S4096x1x1_0_1_2
        (broadcastInDim S1x1x1 ![2] bcast_S1_S1x1x1_2 (constantI S1 32 4095#32)))))
    (constantI S_ 1 1#1) reducesTo_S4096x1x1_S4096x1_d2 h_S_
/-- The elements of the rows at the places. -/
def take (y : FVec Ideal S4096x4096 .f32) (i : IVec S4096x1x1 32) : FVec Ideal S4096x1 .f32 :=
  Host.gather gather_S4096x4096_S4096x1x1_S4096x1_n_1_0_0_1_2_11 y i
def takeAt (y : FVec Ideal S4096x4096 .f32) (i : IVec S4096x1x1 32) : FVec Ideal S4096x1 .f32 :=
  select (inside i) (take y i) (broadcastInDim S4096x1 ![] bcast_S_S4096x1 (constant S_ .f32 0x7FC00000#32))

/-- Two columns side by side. -/
def pair (a b : FVec Ideal S4096x1 .f32) : FVec Ideal S4096x2 .f32 :=
  concatenate S4096x2 1 [⟨S4096x1, a⟩, ⟨S4096x1, b⟩] concatenates_S4096x1_S4096x1_S4096x2_d1
/-- A column in both columns. -/
def both (a : FVec Ideal S4096x1 .f32) : FVec Ideal S4096x2 .f32 := broadcastInDim S4096x2 ![0, 1] bcast_S4096x1_S4096x2_0_1 a
/-- The greatest of each row. -/
def top (z : FVec Ideal S4096x2 .f32) : FVec Ideal S4096x1 .f32 :=
  broadcastInDim S4096x1 ![0] bcast_S4096_S4096x1_0
    (maximumf (broadcastInDim S4096 ![] bcast_S_S4096 (constant S_ .f32 0xFF800000#32))
      (Host.reduce FloatOps.maximumf z (constant S_ .f32 0xFF800000#32) reducesTo_S4096x2_S4096_d1 h_S_))
/-- The rows less their greatest; the sum of the exponentials of a row so lowered. -/
def low (z : FVec Ideal S4096x2 .f32) : FVec Ideal S4096x2 .f32 := subf z (both (top z))
def total (z : FVec Ideal S4096x2 .f32) : FVec Ideal S4096x1 .f32 :=
  broadcastInDim S4096x1 ![0] bcast_S4096_S4096x1_0
    (Host.reduceAdd (Host.exp (low z)) (constant S_ .f32 0x00000000#32) reducesTo_S4096x2_S4096_d1 h_S_)
def softmax (z : FVec Ideal S4096x2 .f32) : FVec Ideal S4096x2 .f32 := Host.divf (Host.exp (low z)) (both (total z))
def logSoftmax (z : FVec Ideal S4096x2 .f32) : FVec Ideal S4096x2 .f32 := subf (low z) (both (Host.log (total z)))
/-- The weighted loss, its mean over the rows, and the sum of the two means. -/
def mean (p g : FVec Ideal S4096x2 .f32) : FVec Ideal S2 .f32 :=
  Host.divf (Host.reduceAdd (mulf (Host.negf (softmax g)) (logSoftmax p)) (constant S_ .f32 0x00000000#32) reducesTo_S4096x2_S2_d0 h_S_)
    (broadcastInDim S2 ![] bcast_S_S2 (constant S_ .f32 0x45800000#32))
def loss (p g : FVec Ideal S4096x2 .f32) : FVec Ideal S_ .f32 :=
  Host.reduceAdd (mean p g) (constant S_ .f32 0x00000000#32) reducesTo_S2_S_d0 h_S_

/-- The pairs of hardest values and of their partners. -/
def hard (x : FVec Ideal S4096x4096 .f32) : FVec Ideal S4096x2 .f32 :=
  pair (col (head (least (pos x)))) (col (head (Host.negf (least (Host.negf (neg x))))))
def partner (x y : FVec Ideal S4096x4096 .f32) : FVec Ideal S4096x2 .f32 :=
  pair (col (takeAt y (wrap (col (head (leastAt (pos x))))))) (col (takeAt y (wrap (col (head (leastAt (Host.negf (neg x))))))))

set_option maxRecDepth 8192 in
/-- The reference's result is the loss of the pairs. -/
theorem res_eq (m : (ℓ : Loc nD τ sig) → Buf (Elt Ideal) ℓ) (c : Dev nD) :
    res_main_v58 (F := Ideal) m c
      = loss (hard (m ((c : Thread nD τ).loc main_arg0))) (partner (m ((c : Thread nD τ).loc main_arg0)) (m ((c : Thread nD τ).loc main_arg1))) := by
  unfold res_main_v58
  rfl

end Cert.Val.Ref

end
-- ==== Proof.Val.Sort.lean ====
/-
  A stable sort's first element: of a row of reals its first least, at the first place where it stands.
-/
module

public import Idealize.ShloMosaic.Lib.Pointwise
public import proofs.«01_k».proof.ReferenceIdeal
public import proofs.«01_k».proof.Proof.Val.Lit
public import proofs.«01_k».proof.Proof.Val.Math

@[expose] public section

noncomputable section

namespace Cert.Val

open Idealize.ShloMosaic

/-- Among places in increasing order, a stable sort puts first the first place of least value. -/
theorem head_stableSort {n : ℕ} (f : Fin n → ℝ) (R : Fin n → Fin n → Bool) (hR : ∀ a b, R a b = decide (f a < f b)) :
    ∀ (l : List (Fin n)), l.Pairwise (· < ·) → ∀ h t, stableSort R l = h :: t →
      h ∈ l ∧ (∀ k ∈ l, f h ≤ f k) ∧ ∀ k ∈ l, k < h → f h < f k
  | [], _, h, t, e => by simp [stableSort] at e
  | a :: l, hl, h, t, e => by
    rw [List.pairwise_cons] at hl
    rw [stableSort] at e
    cases hs : stableSort R l with
    | nil =>
      have hnil : l = [] := List.eq_nil_of_length_eq_zero (by rw [← length_stableSort R l, hs]; rfl)
      rw [hs, insertBefore] at e
      obtain ⟨rfl, rfl⟩ := List.cons.inj e
      subst hnil
      refine ⟨List.mem_singleton.mpr rfl, fun k hk => ?_, fun k hk hlt => ?_⟩
      · rw [List.mem_singleton.mp hk]
      · rw [List.mem_singleton.mp hk] at hlt; exact absurd hlt (lt_irrefl _)
    | cons b s =>
      obtain ⟨hb, hmin, hfst⟩ := head_stableSort f R hR l hl.2 b s hs
      rw [hs, insertBefore, hR] at e
      by_cases hba : f b < f a
      · rw [if_pos (decide_eq_true hba)] at e
        obtain ⟨rfl, -⟩ := List.cons.inj e
        refine ⟨List.mem_cons_of_mem _ hb, fun k hk => ?_, fun k hk hlt => ?_⟩
        · rcases List.mem_cons.mp hk with rfl | hk
          · exact hba.le
          · exact hmin k hk
        · rcases List.mem_cons.mp hk with rfl | hk
          · exact hba
          · exact hfst k hk hlt
      · rw [if_neg (by simpa using hba)] at e
        obtain ⟨rfl, -⟩ := List.cons.inj e
        refine ⟨List.mem_cons_self, fun k hk => ?_, fun k hk hlt => ?_⟩
        · rcases List.mem_cons.mp hk with rfl | hk
          · exact le_refl _
          · exact (not_lt.mp hba).trans (hmin k hk)
        · rcases List.mem_cons.mp hk with rfl | hk
          · exact absurd hlt (lt_irrefl _)
          · exact absurd (hl.1 k hk) (lt_asymm hlt)

/-- The first of a list, by its place. -/
theorem get_zero {α : Type} : ∀ (l : List α) (i : Fin l.length), i.val = 0 → ∃ t, l = l.get i :: t
  | [], i, _ => absurd i.isLt (Nat.not_lt_zero _)
  | a :: l, ⟨0, _⟩, _ => ⟨l, rfl⟩
  | a :: l, ⟨i + 1, _⟩, h => absurd h (Nat.succ_ne_zero _)

/-- What a stable sort puts first has the least value, and no earlier place has. -/
theorem sortedFrom_least {n : ℕ} (f : Fin n → ℝ) (R : Fin n → Fin n → Bool) (hR : ∀ a b, R a b = decide (f a < f b))
    (z : Fin n) (hz : z.val = 0) : (∀ k, f (sortedFrom R z) ≤ f k) ∧ ∀ k, k < sortedFrom R z → f (sortedFrom R z) < f k := by
  obtain ⟨t, ht⟩ := get_zero (sortPositions n R) (z.cast (length_sortPositions n R).symm) hz
  obtain ⟨-, hmin, hfst⟩ := head_stableSort f R hR _ (List.pairwise_lt_finRange n) _ t ht
  exact ⟨fun k => hmin k (List.mem_finRange k), fun k hk => hfst k (List.mem_finRange k) hk⟩

/-- What a stable sort of the 4096 places puts first is the first place of least value. -/
theorem sortedFrom_zero (f : Fin 4096 → ℝ) (R : Fin 4096 → Fin 4096 → Bool) (hR : ∀ a b, R a b = decide (f a < f b))
    (z : Fin 4096) (hz : z.val = 0) : sortedFrom R z = first f :=
  IsFirst.unique (sortedFrom_least f R hR z hz) (first_spec f)

/-! ## The two sorts of a matrix along its rows -/

/-- The indices of a row. -/
theorem along_row {m n : ℕ} (r : Fin m) (z : Fin n) :
    (fun k : Fin n => (ix2 r z : (⟨2, ![m, n]⟩ : Shape).Idx).along ⟨1, Nat.one_lt_two⟩ k) = ix2 r := by
  funext k a; match a with | ⟨0, _⟩ => rfl | ⟨1, _⟩ => rfl

theorem sort_apply {m n : ℕ} {α : Type} (cmp : α → α → BitVec 1) (x : (⟨2, ![m, n]⟩ : Shape).Idx → α) (r : Fin m) (z : Fin n) :
    Host.sort ⟨2, ![m, n]⟩ 1 cmp x (ix2 r z) = x (ix2 r (sortedFrom (fun k k' => cmp (x (ix2 r k)) (x (ix2 r k')) == 1#1) z)) := by
  have h : Host.sort ⟨2, ![m, n]⟩ 1 cmp x (ix2 r z)
      = (fun F : Fin n → (⟨2, ![m, n]⟩ : Shape).Idx => x (F (sortedFrom (fun k k' => cmp (x (F k)) (x (F k')) == 1#1) z)))
        (fun k : Fin n => (ix2 r z : (⟨2, ![m, n]⟩ : Shape).Idx).along ⟨1, Nat.one_lt_two⟩ k) := rfl
  rw [h, along_row r z]

theorem sort2_apply {m n : ℕ} {α β : Type} (cmp : α × β → α × β → BitVec 1) (x : (⟨2, ![m, n]⟩ : Shape).Idx → α)
    (y : (⟨2, ![m, n]⟩ : Shape).Idx → β) (r : Fin m) (z : Fin n) :
    (Host.sort2 ⟨2, ![m, n]⟩ 1 cmp x y).2 (ix2 r z)
      = y (ix2 r (sortedFrom (fun k k' => cmp (x (ix2 r k), y (ix2 r k)) (x (ix2 r k'), y (ix2 r k')) == 1#1) z)) := by
  have h : (Host.sort2 ⟨2, ![m, n]⟩ 1 cmp x y).2 (ix2 r z)
      = (fun F : Fin n → (⟨2, ![m, n]⟩ : Shape).Idx => y (F (sortedFrom (fun k k' => cmp (x (F k), y (F k)) (x (F k'), y (F k')) == 1#1) z)))
        (fun k : Fin n => (ix2 r z : (⟨2, ![m, n]⟩ : Shape).Idx).along ⟨1, Nat.one_lt_two⟩ k) := rfl
  rw [h, along_row r z]

/-! ## The reference's two comparisons -/

theorem comparator_apply (l r : EReal) : ReferenceIdeal.comparator_f32_d1 (F := Ideal) l r = BitVec.ofBool (decide (l < r)) := by
  unfold ReferenceIdeal.comparator_f32_d1
  have h0 : (FloatOps.ofBits .f32 0x00000000#32 : Ideal .f32) = (0 : EReal) := by
    show Ideal.ofBits .f32 0x00000000#32 = 0
    rw [ofBits_zero, EReal.coe_zero]
  have hs (v : EReal) : Scalar.select (BitVec.ofBool (decide (v = 0))) 0 v = v := by
    by_cases h : v = 0 <;> simp [Scalar.select, h]
  have hn (v w : EReal) : Scalar.select (BitVec.ofBool (decide (v ≠ v))) w v = v := by simp [Scalar.select]
  simp only [Ideal.cmpf_def, Ideal.cmpfTotal_def, Ideal.cmp, CmpDirection.ordered, h0, hs, hn]

theorem comparator2_apply (l r : EReal × BitVec 32) :
    ReferenceIdeal.comparator_f32_i32_d1 (F := Ideal) l r = BitVec.ofBool (decide (l.1 < r.1)) :=
  comparator_apply l.1 r.1

end Cert.Val

end
-- ==== Proof.Val.RefPick.lean ====
/-
  The reference's hardest values of a matrix of reals: each row's first least, and its place.
-/
module

public import Idealize.ShloMosaic.Lib.Pointwise
public import proofs.«01_k».proof.Proof.Val.RefTerm
public import proofs.«01_k».proof.Proof.Val.Sort

@[expose] public section

noncomputable section

namespace Cert.Val.Ref

open Idealize.ShloMosaic Cert.ReferenceIdeal Cert.ReferenceIdeal.Gen

/-- Two places' words are equal exactly if the places are. -/
theorem word_eq (r j : Fin 4096) :
    IntOp.cmpi .eq (IntOp.addi (BitVec.ofNat 32 r.val) 0#32) (BitVec.ofNat 32 j.val) = if j = r then 1#1 else 0#1 := by
  have hr := r.isLt; have hj := j.isLt
  have hw : (BitVec.ofNat 32 r.val + 0#32 = BitVec.ofNat 32 j.val) ↔ j = r := by
    rw [← BitVec.toNat_inj, Fin.ext_iff]
    simp only [BitVec.toNat_add, BitVec.toNat_ofNat]
    omega
  show BitVec.ofBool (BitVec.ofNat 32 r.val + 0#32 == BitVec.ofNat 32 j.val) = _
  by_cases h : j = r
  · rw [if_pos h, hw.mpr h]; simp
  · rw [if_neg h, beq_eq_false_iff_ne.mpr (fun he => h (hw.mp he))]; rfl

theorem diag_apply (r j : Fin 4096) : diag (ix2 r j) = if j = r then ((1 : ℝ) : EReal) else ((0 : ℝ) : EReal) := by
  pointwise [diag]
  rw [word_eq]
  by_cases h : j = r
  · rw [if_pos h, if_pos h]; show (((1#1 : BitVec 1).toNat : ℝ) : EReal) = _; simp
  · rw [if_neg h, if_neg h]; show (((0#1 : BitVec 1).toNat : ℝ) : EReal) = _; simp

variable {x : FVec Ideal S4096x4096 .f32} {X : Fin 4096 → Fin 4096 → ℝ} {r : Fin 4096}

theorem pos_apply (hx : ∀ b, x (ix2 r b) = ((X r b : ℝ) : EReal)) (j : Fin 4096) :
    pos x (ix2 r j) = ((posRow X r j : ℝ) : EReal) := by
  pointwise [pos]
  rw [hx, diag_apply, posRow]
  by_cases h : j = r
  · simp only [if_pos h, ofBits_penalty, add_zero]
    rw [show ((1 : EReal) - ((1 : ℝ) : EReal)) = 0 by norm_cast, mul_zero, add_zero]
  · simp [h, ofBits_penalty]

theorem neg_apply (hx : ∀ b, x (ix2 r b) = ((X r b : ℝ) : EReal)) (j : Fin 4096) :
    Host.negf (neg x) (ix2 r j) = ((-negRow X r j : ℝ) : EReal) := by
  pointwise [neg]
  rw [hx, diag_apply, negRow]
  by_cases h : j = r
  · rw [if_pos h, if_pos h, ofBits_neg_penalty, ← EReal.coe_mul, mul_one, ← EReal.coe_add, ← EReal.coe_neg]
  · rw [if_neg h, if_neg h, ofBits_neg_penalty, ← EReal.coe_mul, mul_zero, ← EReal.coe_add, ← EReal.coe_neg]

theorem lt_bit (a b : ℝ) : decide ((a : EReal) < (b : EReal)) = decide (a < b) := by simp only [EReal.coe_lt_coe_iff]

/-- A row's least value, and its place. -/
theorem least_apply (f : Fin 4096 → ℝ) (hx : ∀ b, x (ix2 r b) = ((f b : ℝ) : EReal)) (z : Fin 4096) (hz : z.val = 0) :
    least x (ix2 r z) = ((f (first f) : ℝ) : EReal) := by
  unfold least
  rw [sort_apply, hx, sortedFrom_zero f _ (fun a b => ?_) z hz]
  rw [hx, hx, comparator_apply, lt_bit]
  cases decide (f a < f b) <;> rfl

theorem leastAt_apply (f : Fin 4096 → ℝ) (hx : ∀ b, x (ix2 r b) = ((f b : ℝ) : EReal)) (z : Fin 4096) (hz : z.val = 0) :
    leastAt x (ix2 r z) = BitVec.ofNat 32 (first f).val := by
  unfold leastAt
  rw [sort2_apply, sortedFrom_zero f _ (fun a b => ?_) z hz]
  · rfl
  rw [comparator2_apply]
  show (BitVec.ofBool (decide (x (ix2 r a) < x (ix2 r b))) == 1#1) = _
  rw [hx, hx, lt_bit]
  cases decide (f a < f b) <;> rfl

theorem col_apply {α : Type} (v : S4096x1.Idx → α) : col v (ix2 r 0) = v (ix2 r 0) := by
  pointwise [col]

theorem head_apply {α : Type} (v : S4096x4096.Idx → α) : head v (ix2 r 0) = v (ix2 r 0) := by
  pointwise [head]

end Cert.Val.Ref

end
-- ==== Proof.Val.RefTake.lean ====
/-
  What the reference takes of a matrix at a column of places: of each row its element at the row's place.
-/
module

public import Idealize.ShloMosaic.Lib.Pointwise
public import proofs.«01_k».proof.Proof.Val.RefTerm

@[expose] public section

noncomputable section

namespace Cert.Val.Ref

open Idealize.ShloMosaic Cert.ReferenceIdeal Cert.ReferenceIdeal.Gen

/-- A gather of one element of each row, the rows matched: at a row it is the element at the row's start index. -/
theorem gather_row {N C w : ℕ} {α : Type} (g : GatherDims ⟨2, ![N, C]⟩ ⟨3, ![N, 1, 1]⟩ ⟨2, ![N, 1]⟩)
    (wf : GatherDims.WF ⟨2, ![N, C]⟩ ⟨3, ![N, 1, 1]⟩ ⟨2, ![N, 1]⟩ [] [1] [0] [1] [0] 2 ![1, 1])
    (hg : g = ⟨[], [1], [0], [0], [1], 2, ![1, 1], wf⟩)
    (y : (⟨2, ![N, C]⟩ : Shape).Idx → α) (i : IVec ⟨3, ![N, 1, 1]⟩ w) (r : Fin N) (k : Fin C)
    (hk : min (i (ix3 r 0 0)).toInt.toNat (C - 1) = k.val) : Host.gather g y i (ix2 r 0) = y (ix2 r k) := by
  unfold Host.gather
  refine congrArg y (funext fun a => Fin.ext ?_)
  show g.start (ix2 r 0) i a + g.batchCoord (ix2 r 0) a + g.offCoord (ix2 r 0) a = _
  subst hg
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl)),
      Nat.add_zero]
    unfold GatherDims.start
    rw [dif_pos (List.mem_singleton.mpr rfl)]
    refine Eq.trans ?_ hk
    refine congrArg (fun j => min (i j).toInt.toNat (C - 1)) (funext fun b => Fin.ext ?_)
    match b with
    | ⟨0, _⟩ => rfl
    | ⟨1, _⟩ => rfl
    | ⟨2, _⟩ => rfl

theorem take_apply (y : FVec Ideal S4096x4096 .f32) (i : IVec S4096x1x1 32) (r k : Fin 4096)
    (hk : min (i (ix3 r 0 0)).toInt.toNat (4096 - 1) = k.val) : take y i (ix2 r 0) = y (ix2 r k) :=
  gather_row _ Facts₀.gather_S4096x4096_S4096x1x1_S4096x1_n_1_0_0_1_2_11_wf rfl y i r k hk

/-- A place's word, as a signed number. -/
theorem place_toInt (k : Fin 4096) : (BitVec.ofNat 32 k.val).toInt = (k.val : ℤ) := by
  have hk := k.isLt
  rw [BitVec.toInt_eq_toNat_of_lt (by simp only [BitVec.toNat_ofNat]; omega)]
  simp only [BitVec.toNat_ofNat, Nat.mod_eq_of_lt (show k.val < 2 ^ 32 by omega)]

variable {i : IVec S4096x1 32} {r k : Fin 4096}

/-- A place is kept, and is inside its row. -/
theorem wrap_apply (hi : i (ix2 r 0) = BitVec.ofNat 32 k.val) : wrap i (ix3 r 0 0) = BitVec.ofNat 32 k.val := by
  pointwise [wrap]
  rw [hi]
  have h : IntOp.cmpi .slt (BitVec.ofNat 32 k.val) 0#32 = 0#1 := by
    show BitVec.ofBool (decide ((BitVec.ofNat 32 k.val).toInt < (0#32 : BitVec 32).toInt)) = 0#1
    rw [decide_eq_false (by rw [place_toInt]; simp)]; rfl
  rw [h]
  rfl

theorem inside_apply {i : IVec S4096x1x1 32} (hi : i (ix3 r 0 0) = BitVec.ofNat 32 k.val) : inside i (ix2 r 0) = 1#1 := by
  pointwise [inside]
  have h0 : IntOp.cmpi .sge (BitVec.ofNat 32 k.val) 0#32 = 1#1 := by
    show BitVec.ofBool (decide ((0#32 : BitVec 32).toInt ≤ (BitVec.ofNat 32 k.val).toInt)) = 1#1
    rw [decide_eq_true (by rw [place_toInt]; simp)]; rfl
  have h1 : IntOp.cmpi .sle (BitVec.ofNat 32 k.val) 4095#32 = 1#1 := by
    have hk := k.isLt
    have h4 : (4095#32 : BitVec 32).toInt = 4095 := by decide
    show BitVec.ofBool (decide ((BitVec.ofNat 32 k.val).toInt ≤ (4095#32 : BitVec 32).toInt)) = 1#1
    rw [decide_eq_true (by rw [place_toInt, h4]; omega)]; rfl
  rw [Finset.univ_unique, Finset.fold_singleton]
  show IntOp.andi (IntOp.andi (IntOp.cmpi .sge (i (ix3 r 0 0)) 0#32) (IntOp.cmpi .sle (i (ix3 r 0 0)) 4095#32)) 1#1 = 1#1
  rw [hi, h0, h1]
  rfl

theorem takeAt_apply {y : FVec Ideal S4096x4096 .f32} (hi : i (ix2 r 0) = BitVec.ofNat 32 k.val) :
    takeAt y (wrap i) (ix2 r 0) = y (ix2 r k) := by
  have hw := wrap_apply hi
  have hk := k.isLt
  unfold takeAt
  pointwise []
  rw [inside_apply hw, take_apply y _ r k (by rw [hw, place_toInt]; omega)]
  rfl

end Cert.Val.Ref

end
-- ==== Proof.Val.RefLoss.lean ====
/-
  The reference's loss of two columns of pairs of reals.
-/
module

public import Idealize.ShloMosaic.Lib.Pointwise
public import proofs.«01_k».proof.Proof.Val.RefTerm
public import proofs.«01_k».proof.Proof.Val.Lit

@[expose] public section

noncomputable section

namespace Cert.Val.Ref

open Idealize.ShloMosaic Cert.ReferenceIdeal Cert.ReferenceIdeal.Gen

theorem pair_zero (a b : FVec Ideal S4096x1 .f32) (r : Fin 4096) : pair a b (ix2 r 0) = a (ix2 r 0) := by
  pointwise [pair]
theorem pair_one (a b : FVec Ideal S4096x1 .f32) (r : Fin 4096) : pair a b (ix2 r 1) = b (ix2 r 0) := by
  pointwise [pair]

theorem both_apply (a : FVec Ideal S4096x1 .f32) (r : Fin 4096) (s : Fin 2) : both a (ix2 r s) = a (ix2 r 0) := by
  pointwise [both]

variable {z : FVec Ideal S4096x2 .f32} {r : Fin 4096} {p n : ℝ}

theorem top_apply (h0 : z (ix2 r 0) = (p : EReal)) (h1 : z (ix2 r 1) = (n : EReal)) : top z (ix2 r 0) = ((max p n : ℝ) : EReal) := by
  pointwise [top]
  have hf : (Finset.univ.fold max (⊥ : EReal) fun s : Fin 2 => z (ix2 r s)) = ((max p n : ℝ) : EReal) := by
    rw [show (Finset.univ : Finset (Fin 2)) = {0, 1} from rfl, Finset.fold_insert (by decide), Finset.fold_singleton, h0, h1,
      max_bot_right, max_coe]
  rw [ofBits_bot, hf, max_bot_left]

theorem low_apply (h0 : z (ix2 r 0) = (p : EReal)) (h1 : z (ix2 r 1) = (n : EReal)) (s : Fin 2) :
    low z (ix2 r s) = z (ix2 r s) - ((max p n : ℝ) : EReal) := by
  pointwise [low]
  rw [both_apply, top_apply h0 h1]

theorem total_apply (h0 : z (ix2 r 0) = (p : EReal)) (h1 : z (ix2 r 1) = (n : EReal)) :
    total z (ix2 r 0) = ((Real.exp (p - max p n) + Real.exp (n - max p n) : ℝ) : EReal) := by
  pointwise [total]
  rw [Fin.sum_univ_two, low_apply h0 h1, low_apply h0 h1, h0, h1, expSum_coe]

theorem softmax_apply (h0 : z (ix2 r 0) = (p : EReal)) (h1 : z (ix2 r 1) = (n : EReal)) (s : Fin 2) (v : ℝ)
    (hv : z (ix2 r s) = (v : EReal)) :
    softmax z (ix2 r s) = ((Real.exp (v - max p n) * (1 / (Real.exp (p - max p n) + Real.exp (n - max p n))) : ℝ) : EReal) := by
  pointwise [softmax]
  rw [both_apply, total_apply h0 h1, low_apply h0 h1, hv]
  rw [Ideal.div_coe (add_pos (Real.exp_pos _) (Real.exp_pos _)).ne', ← EReal.coe_sub, Ideal.exp_coe, ← EReal.coe_mul]

theorem logSoftmax_apply (h0 : z (ix2 r 0) = (p : EReal)) (h1 : z (ix2 r 1) = (n : EReal)) (s : Fin 2) (u : ℝ)
    (hu : z (ix2 r s) = (u : EReal)) :
    logSoftmax z (ix2 r s) = ((u - max p n - Real.log (Real.exp (p - max p n) + Real.exp (n - max p n)) : ℝ) : EReal) := by
  pointwise [logSoftmax]
  rw [both_apply, low_apply h0 h1, hu]
  pointwise []
  rw [total_apply h0 h1, logSum_coe, ← EReal.coe_sub, ← EReal.coe_sub]

/-- A real sum's terms, each as an extended real. -/
theorem coe_sum {n : ℕ} (t : Fin n → ℝ) : ((∑ r, t r : ℝ) : EReal) = ∑ r, (t r : EReal) :=
  map_sum (⟨⟨Real.toEReal, rfl⟩, EReal.coe_add⟩ : ℝ →+ EReal) t Finset.univ

theorem mean_apply (A B : FVec Ideal S4096x2 .f32) (s : Fin 2) (t : Fin 4096 → ℝ)
    (h : ∀ r, -softmax B (ix2 r s) * logSoftmax A (ix2 r s) = ((t r : ℝ) : EReal)) :
    mean A B (ix1 s) = (((∑ r, t r) * (1 / 4096) : ℝ) : EReal) := by
  pointwise [mean]
  simp only [h]
  rw [ofBits_rows, Ideal.div_coe (by norm_num), EReal.coe_mul, coe_sum]

theorem loss_apply (A B : FVec Ideal S4096x2 .f32) (j : S_.Idx) : loss A B j = mean A B (ix1 0) + mean A B (ix1 1) := by
  pointwise [loss]
  exact Fin.sum_univ_two _

end Cert.Val.Ref

end
-- ==== Proof.Val.Mine.lean ====
/-
  The first call's arithmetic on a block of real rows: the hardest values of each row, their places' partners, and what
  a row's two losses are.
-/
module

public import Idealize.ShloMosaic.Lib.Pointwise
public import proofs.«01_k».proof.Proof.Gen.KernelIdeal.Skeleton
public import proofs.«01_k».proof.Proof.Val.Lit
public import proofs.«01_k».proof.Proof.Val.Math

@[expose] public section

noncomputable section

namespace Cert.Val

open Idealize.ShloMosaic Cert.KernelIdeal Cert.KernelIdeal.Gen

/-- The words of a place and of a row's number are equal exactly if the numbers are. -/
theorem word_cmp (a : Fin 128) (k : ℕ) (b q : Fin 4096) (h : q.val = 128 * k + a.val) :
    IntOp.cmpi .eq (BitVec.ofNat 32 b.val) (IntOp.addi (BitVec.ofNat 32 a.val) (Scalar.muli (BitVec.ofNat 32 k) 128#32))
      = if b = q then 1#1 else 0#1 := by
  have hb := b.isLt; have hq := q.isLt; have ha := a.isLt
  have hw : (BitVec.ofNat 32 b.val = BitVec.ofNat 32 a.val + BitVec.ofNat 32 k * 128#32) ↔ b = q := by
    rw [← BitVec.toNat_inj, Fin.ext_iff]
    simp only [BitVec.toNat_add, BitVec.toNat_mul, BitVec.toNat_ofNat]
    omega
  show BitVec.ofBool (BitVec.ofNat 32 b.val == BitVec.ofNat 32 a.val + BitVec.ofNat 32 k * 128#32) = _
  by_cases hbq : b = q
  · rw [if_pos hbq, hw.mpr hbq]; simp
  · rw [if_neg hbq, beq_eq_false_iff_ne.mpr (fun he => hbq (hw.mp he))]; rfl

/-- A place's word, read as a number, is the place. -/
theorem place_sitofp (b : ℕ) (hb : b < 4096) :
    (FloatOps.sitofp FTy.f32 (BitVec.ofNat 32 b) : Ideal .f32) = ((b : ℝ) : EReal) := by
  show (((BitVec.ofNat 32 b).toInt : ℝ) : EReal) = _
  rw [BitVec.toInt_eq_toNat_of_lt (by simp only [BitVec.toNat_ofNat]; omega)]
  simp only [BitVec.toNat_ofNat, Nat.mod_eq_of_lt (show b < 2 ^ 32 by omega), Int.cast_natCast]

variable {i : grid0.Coords} {x y : Vec Ideal S128x4096 .f32} {X Y : Fin 4096 → Fin 4096 → ℝ} {a : Fin 128} {q : Fin 4096}

theorem pay9_apply (hq : q.val = 128 * (i 0).val + a.val) (hx : ∀ b, x (ix2 a b) = ((X q b : ℝ) : EReal)) (b : Fin 4096) :
    k0_pay9 i x (ix2 a b) = ((posRow X q b : ℝ) : EReal) := by
  pointwise [k0_pay9, k0_pay7]
  rw [hx, posRow, ofBits_penalty, word_cmp a _ b q hq]
  by_cases h : b = q
  · simp [h, Scalar.select]
  · simp [h, Scalar.select]

theorem pay10_apply (hq : q.val = 128 * (i 0).val + a.val) (hx : ∀ b, x (ix2 a b) = ((X q b : ℝ) : EReal)) (b : Fin 4096) :
    k0_pay10 i x (ix2 a b) = ((negRow X q b : ℝ) : EReal) := by
  pointwise [k0_pay10, k0_pay7]
  rw [hx, negRow, ofBits_neg_penalty, word_cmp a _ b q hq]
  by_cases h : b = q
  · simp [h, Scalar.select]
  · simp [h, Scalar.select]

theorem pay11_apply (hq : q.val = 128 * (i 0).val + a.val) (hx : ∀ b, x (ix2 a b) = ((X q b : ℝ) : EReal)) :
    k0_pay11 i x (ix1 a) = ((hardP X q : ℝ) : EReal) := by
  pointwise [k0_pay11]
  simp only [pay9_apply hq hx, ofBits_top]
  exact fold_min_first _

theorem pay12_apply (hq : q.val = 128 * (i 0).val + a.val) (hx : ∀ b, x (ix2 a b) = ((X q b : ℝ) : EReal)) :
    k0_pay12 i x (ix1 a) = ((hardN X q : ℝ) : EReal) := by
  pointwise [k0_pay12]
  simp only [pay10_apply hq hx, ofBits_bot]
  exact fold_max_first _

/-- Before its first place a row never takes its least value, nor its negative. -/
theorem posAt_ne (X : Fin 4096 → Fin 4096 → ℝ) (q k : Fin 4096) (hk : k < posAt X q) : posRow X q k ≠ posRow X q (posAt X q) :=
  ((first_spec (posRow X q)).2 k hk).ne'
theorem negAt_ne (X : Fin 4096 → Fin 4096 → ℝ) (q k : Fin 4096) (hk : k < negAt X q) : negRow X q k ≠ negRow X q (negAt X q) :=
  fun h => ((first_spec fun j => -negRow X q j).2 k hk).ne' (congrArg (- ·) h)

theorem pay13_apply (hq : q.val = 128 * (i 0).val + a.val) (hx : ∀ b, x (ix2 a b) = ((X q b : ℝ) : EReal)) (b : Fin 4096) :
    k0_pay13 i x y (ix2 a b) = if ((b.val : ℝ) : EReal) = (((posAt X q).val : ℝ) : EReal) then y (ix2 a b) else 0 := by
  pointwise [k0_pay13, k0_pay8]
  have hp : ∀ k : Fin 4096, (FloatOps.sitofp FTy.f32 (BitVec.ofNat 32 k.val) : Ideal .f32) = ((k.val : ℝ) : EReal) :=
    fun k => place_sitofp k.val k.isLt
  simp only [pay9_apply hq hx, pay11_apply hq hx, hp, ofBits_top]
  rw [show hardP X q = posRow X q (posAt X q) from rfl, fold_min_place _ _ (posAt_ne X q) _ ofBits_big]

theorem pay14_apply (hq : q.val = 128 * (i 0).val + a.val) (hx : ∀ b, x (ix2 a b) = ((X q b : ℝ) : EReal)) (b : Fin 4096) :
    k0_pay14 i x y (ix2 a b) = if ((b.val : ℝ) : EReal) = (((negAt X q).val : ℝ) : EReal) then y (ix2 a b) else 0 := by
  pointwise [k0_pay14, k0_pay8]
  have hp : ∀ k : Fin 4096, (FloatOps.sitofp FTy.f32 (BitVec.ofNat 32 k.val) : Ideal .f32) = ((k.val : ℝ) : EReal) :=
    fun k => place_sitofp k.val k.isLt
  simp only [pay10_apply hq hx, pay12_apply hq hx, hp, ofBits_top]
  rw [show hardN X q = negRow X q (negAt X q) from rfl, fold_min_place _ _ (negAt_ne X q) _ ofBits_big]

/-- The partners picked by the two products with ones. -/
theorem gp_apply (hq : q.val = 128 * (i 0).val + a.val) (hx : ∀ b, x (ix2 a b) = ((X q b : ℝ) : EReal))
    (hy : ∀ b, y (ix2 a b) = ((Y q b : ℝ) : EReal)) :
    k0_pay2 (k0_pay13 i x y) (Scalar.ofBits .f32 0x3F800000#32) (ix1 a) = ((Y q (posAt X q) : ℝ) : EReal) := by
  pointwise [k0_pay2, k0_pay1]
  simp only [pay13_apply hq hx, hy]
  exact sum_place _ _
theorem gn_apply (hq : q.val = 128 * (i 0).val + a.val) (hx : ∀ b, x (ix2 a b) = ((X q b : ℝ) : EReal))
    (hy : ∀ b, y (ix2 a b) = ((Y q b : ℝ) : EReal)) :
    k0_pay3 (k0_pay14 i x y) (Scalar.ofBits .f32 0x3F800000#32) (ix1 a) = ((Y q (negAt X q) : ℝ) : EReal) := by
  pointwise [k0_pay3, k0_pay1]
  simp only [pay14_apply hq hx, hy]
  exact sum_place _ _

/-- The logarithm of the sum of two exponentials of reals. -/
theorem lse_apply (u v : FVec Ideal S128 .f32) (p n : ℝ) (hu : u (ix1 a) = (p : EReal)) (hv : v (ix1 a) = (n : EReal)) :
    k0_pay4 u v (ix1 a) = ((lse p n : ℝ) : EReal) := by
  pointwise [k0_pay4]
  rw [hu, hv]
  exact lse_coe p n
theorem ap_apply (u v : FVec Ideal S128 .f32) (p n : ℝ) (hu : u (ix1 a) = (p : EReal)) (hv : v (ix1 a) = (n : EReal)) :
    k0_pay5 u v (ix1 a) = (((p - lse p n) * (-(1 / 4096)) : ℝ) : EReal) := by
  pointwise [k0_pay5]
  rw [lse_apply u v p n hu hv, hu, ofBits_scale]
  norm_cast
theorem an_apply (u v : FVec Ideal S128 .f32) (p n : ℝ) (hu : u (ix1 a) = (p : EReal)) (hv : v (ix1 a) = (n : EReal)) :
    k0_pay6 u v (ix1 a) = (((n - lse p n) * (-(1 / 4096)) : ℝ) : EReal) := by
  pointwise [k0_pay6]
  rw [lse_apply u v p n hu hv, hv, ofBits_scale]
  norm_cast

end Cert.Val

end
-- ==== Proof.Val.Arrays.lean ====
/-
  The four arrays that the first call leaves, of real matrices: for each row its two losses and the two partners of its
  hardest values.
-/
module

public import Idealize.ShloMosaic.Lib.Pipeline.ValueKit.Acc
public import proofs.«01_k».proof.Proof.KI.Launch
public import proofs.«01_k».proof.Proof.Val.Mine

@[expose] public section

noncomputable section

namespace Cert.Val

open Idealize.ShloMosaic Cert.KernelIdeal Cert.KernelIdeal.Gen Cert.KernelIdeal.Run
open Idealize.ShloMosaic.TcCoe
open Idealize.ShloMosaic.Pipeline (Dat Cfg Window)

variable (W : Vals Ideal) (O : Dev nD → CellTallies nD τ sig (SparseCore.Cfg.HIx 1)) (B : Dev nD → Set (SemLoc sig × SparseCore.Cfg.HIx 1)) (c : Dev nD)
  (X Y : Fin 4096 → Fin 4096 → ℝ)

/-- Each point's blocks stand at the point's number. -/
theorem index_facts : ∀ t : Fin cfg0.N, win0_0.index t = ![t.val, 0] ∧ win0_1.index t = ![t.val, 0] ∧ win0_2.index t = ![t.val]
    ∧ win0_3.index t = ![t.val] ∧ win0_4.index t = ![t.val] ∧ win0_5.index t = ![t.val] ∧ (grid0.coords t 0).val = t.val :=
  (by decide +kernel : ∀ t : Fin grid0.N, _)

/-- Row `a` of a point's block of an input is the array's row `128 t + a`. -/
theorem iblk_row0 (hX : ∀ q b : Fin 4096, W c main_arg0 (ix2 q b) = ((X q b : ℝ) : EReal)) (t : Fin cfg0.N) (a : Fin 128) (q : Fin 4096)
    (hq : q.val = 128 * (grid0.coords t 0).val + a.val) (b : Fin 4096) : iblk0 W c 0 t (ix2 a b) = ((X q b : ℝ) : EReal) := by
  obtain ⟨e0, e1, -, -, -, -, e6⟩ := index_facts t
  rw [e6] at hq
  rw [← hX]
  blk_ext [iblk0, e0]
theorem iblk_row1 (hY : ∀ q b : Fin 4096, W c main_arg1 (ix2 q b) = ((Y q b : ℝ) : EReal)) (t : Fin cfg0.N) (a : Fin 128) (q : Fin 4096)
    (hq : q.val = 128 * (grid0.coords t 0).val + a.val) (b : Fin 4096) : iblk0 W c 1 t (ix2 a b) = ((Y q b : ℝ) : EReal) := by
  obtain ⟨e0, e1, -, -, -, -, e6⟩ := index_facts t
  rw [e6] at hq
  rw [← hY]
  blk_ext [iblk0, e1]

theorem ap_arr (hX : ∀ q b : Fin 4096, W c main_arg0 (ix2 q b) = ((X q b : ℝ) : EReal)) :
    (dat0 W O B c).arrAt 2 cfg0.N = fun j => (((hardP X (j 0) - lse (hardP X (j 0)) (hardN X (j 0))) * (-(1 / 4096)) : ℝ) : EReal) := by
  refine (dat0 W O B c).arrAt_eq_of_covers 2 _ (by decide +kernel) fun t hf y => ?_
  blk_simp
  rw [after0_2]
  unfold mineAp
  frame_out
  obtain ⟨-, -, e2, e3, e4, e5, e6⟩ := index_facts t
  have hq : ((((View.whole main_v0_0).slice (win0_2.rect t)).emb y 0 : Fin 4096) : ℕ) = 128 * (grid0.coords t 0).val + (y 0 : Fin 128).val := by
    blk_simp [e2, e6]; omega
  generalize (((View.whole main_v0_0).slice (win0_2.rect t)).emb y 0 : Fin 4096) = q at hq ⊢
  have hy : y = ix1 (y 0 : Fin 128) := by blk_ext
  rw [hy]
  exact ap_apply _ _ _ _ (pay11_apply hq (iblk_row0 W c X hX t _ q hq)) (pay12_apply hq (iblk_row0 W c X hX t _ q hq))

theorem an_arr (hX : ∀ q b : Fin 4096, W c main_arg0 (ix2 q b) = ((X q b : ℝ) : EReal)) :
    (dat0 W O B c).arrAt 3 cfg0.N = fun j => (((hardN X (j 0) - lse (hardP X (j 0)) (hardN X (j 0))) * (-(1 / 4096)) : ℝ) : EReal) := by
  refine (dat0 W O B c).arrAt_eq_of_covers 3 _ (by decide +kernel) fun t hf y => ?_
  blk_simp
  rw [after0_3]
  unfold mineAn
  frame_out
  obtain ⟨-, -, e2, e3, e4, e5, e6⟩ := index_facts t
  have hq : ((((View.whole main_v0_1).slice (win0_3.rect t)).emb y 0 : Fin 4096) : ℕ) = 128 * (grid0.coords t 0).val + (y 0 : Fin 128).val := by
    blk_simp [e3, e6]; omega
  generalize (((View.whole main_v0_1).slice (win0_3.rect t)).emb y 0 : Fin 4096) = q at hq ⊢
  have hy : y = ix1 (y 0 : Fin 128) := by blk_ext
  rw [hy]
  exact an_apply _ _ _ _ (pay11_apply hq (iblk_row0 W c X hX t _ q hq)) (pay12_apply hq (iblk_row0 W c X hX t _ q hq))

theorem gp_arr (hX : ∀ q b : Fin 4096, W c main_arg0 (ix2 q b) = ((X q b : ℝ) : EReal))
    (hY : ∀ q b : Fin 4096, W c main_arg1 (ix2 q b) = ((Y q b : ℝ) : EReal)) :
    (dat0 W O B c).arrAt 4 cfg0.N = fun j => ((Y (j 0) (posAt X (j 0)) : ℝ) : EReal) := by
  refine (dat0 W O B c).arrAt_eq_of_covers 4 _ (by decide +kernel) fun t hf y => ?_
  blk_simp
  rw [after0_4]
  unfold mineGp
  frame_out
  obtain ⟨-, -, e2, e3, e4, e5, e6⟩ := index_facts t
  have hq : ((((View.whole main_v0_2).slice (win0_4.rect t)).emb y 0 : Fin 4096) : ℕ) = 128 * (grid0.coords t 0).val + (y 0 : Fin 128).val := by
    blk_simp [e4, e6]; omega
  generalize (((View.whole main_v0_2).slice (win0_4.rect t)).emb y 0 : Fin 4096) = q at hq ⊢
  have hy : y = ix1 (y 0 : Fin 128) := by blk_ext
  rw [hy]
  exact gp_apply hq (iblk_row0 W c X hX t _ q hq) (iblk_row1 W c Y hY t _ q hq)

theorem gn_arr (hX : ∀ q b : Fin 4096, W c main_arg0 (ix2 q b) = ((X q b : ℝ) : EReal))
    (hY : ∀ q b : Fin 4096, W c main_arg1 (ix2 q b) = ((Y q b : ℝ) : EReal)) :
    (dat0 W O B c).arrAt 5 cfg0.N = fun j => ((Y (j 0) (negAt X (j 0)) : ℝ) : EReal) := by
  refine (dat0 W O B c).arrAt_eq_of_covers 5 _ (by decide +kernel) fun t hf y => ?_
  blk_simp
  rw [after0_5]
  unfold mineGn
  frame_out
  obtain ⟨-, -, e2, e3, e4, e5, e6⟩ := index_facts t
  have hq : ((((View.whole main_v0_3).slice (win0_5.rect t)).emb y 0 : Fin 4096) : ℕ) = 128 * (grid0.coords t 0).val + (y 0 : Fin 128).val := by
    blk_simp [e5, e6]; omega
  generalize (((View.whole main_v0_3).slice (win0_5.rect t)).emb y 0 : Fin 4096) = q at hq ⊢
  have hy : y = ix1 (y 0 : Fin 128) := by blk_ext
  rw [hy]
  exact gn_apply hq (iblk_row0 W c X hX t _ q hq) (iblk_row1 W c Y hY t _ q hq)

end Cert.Val

end
-- ==== Proof.Val.Sc.lean ====
/-
  The SparseCore call's and the last call's arithmetic on real arrays: the result is the sum of the rows' losses.
-/
module

public import proofs.«01_k».proof.Proof.Val.Arrays

@[expose] public section

noncomputable section

namespace Cert.Val

open Idealize.ShloMosaic Cert.KernelIdeal Cert.KernelIdeal.Gen Cert.KernelIdeal.Run
open Idealize.ShloMosaic.TcCoe
open Idealize.ShloMosaic.Pipeline (Dat Cfg Window)

/-! ## Sums over the rows, in the order in which the subcores take them -/

theorem sum_split {m n N : ℕ} (h : m * n = N) (f : Fin N → ℝ) :
    ∑ r, f r = ∑ i : Fin m, ∑ j : Fin n, f ⟨n * i.val + j.val, by
      subst h; have := i.isLt; have := j.isLt; calc n * i.val + j.val < n * (i.val + 1) := by rw [Nat.mul_succ]; omega
        _ ≤ m * n := by rw [Nat.mul_comm m n]; exact Nat.mul_le_mul_left _ (by omega)⟩ := by
  subst h
  rw [← Equiv.sum_comp finProdFinEquiv, Fintype.sum_prod_type]
  refine Finset.sum_congr rfl fun i _ => Finset.sum_congr rfl fun j _ => congrArg f (Fin.ext ?_)
  show j.val + n * i.val = n * i.val + j.val
  omega

/-- The place of lane `l` of chunk `k` in a block of 128. -/
def place (k : Fin 8) (l : Fin 16) : Fin 128 := ⟨16 * k.val + l.val, by have := k.isLt; have := l.isLt; omega⟩
/-- The row at place `p` of subcore `i`'s block. -/
def row (i : Fin 32) (p : Fin 128) : Fin 4096 := ⟨128 * i.val + p.val, by have := i.isLt; have := p.isLt; omega⟩

theorem sum_rows (f : Fin 4096 → ℝ) : ∑ i : Fin 32, ∑ l : Fin 16, ∑ k : Fin 8, f (row i (place k l)) = ∑ r, f r := by
  rw [sum_split (show 32 * 128 = 4096 from rfl) f]
  refine Finset.sum_congr rfl fun i _ => ?_
  exact (Finset.sum_comm.trans (sum_split (show 8 * 16 = 128 from rfl) fun j : Fin 128 => f (row i j)).symm)

/-! ## A subcore's lanes -/

theorem weight_coe (g h : ℝ) : Ideal.div 1 (1 + Ideal.exp ((h : EReal) - (g : EReal))) = ((weight g h : ℝ) : EReal) := by
  have hne : (1 + Real.exp (h - g) : ℝ) ≠ 0 := (add_pos one_pos (Real.exp_pos _)).ne'
  rw [← EReal.coe_sub, Ideal.exp_coe, ← EReal.coe_one, ← EReal.coe_add, Ideal.div_coe hne, ← EReal.coe_mul, weight]

/-- The share of the loss that a place adds. -/
def share (a b g h : ℝ) : ℝ := weight g h * a + (1 - weight g h) * b

theorem share_first (a b g h : ℝ) :
    Ideal.div 1 (1 + Ideal.exp ((h : EReal) - (g : EReal))) * (a : EReal)
      + (1 - Ideal.div 1 (1 + Ideal.exp ((h : EReal) - (g : EReal)))) * (b : EReal) = ((share a b g h : ℝ) : EReal) := by
  rw [weight_coe, share]
  norm_cast

theorem share_next (s a b g h : ℝ) :
    (s : EReal) + Ideal.div 1 (1 + Ideal.exp ((h : EReal) - (g : EReal))) * (a : EReal)
      + (1 - Ideal.div 1 (1 + Ideal.exp ((h : EReal) - (g : EReal)))) * (b : EReal) = ((s + share a b g h : ℝ) : EReal) := by
  rw [add_assoc, share_first, EReal.coe_add]

/-- What a subcore leaves in a lane: the sum of the shares of the lane's places. -/
theorem tileVal_apply (a b g h : Vec Ideal S128 .f32) (A B G H : Fin 128 → ℝ) (ha : ∀ p, a (ix1 p) = ((A p : ℝ) : EReal))
    (hb : ∀ p, b (ix1 p) = ((B p : ℝ) : EReal)) (hg : ∀ p, g (ix1 p) = ((G p : ℝ) : EReal))
    (hh : ∀ p, h (ix1 p) = ((H p : ℝ) : EReal)) (l : Fin 16) :
    tileVal a b g h (ix1 l)
      = ((∑ k : Fin 8, share (A (place k l)) (B (place k l)) (G (place k l)) (H (place k l)) : ℝ) : EReal) := by
  unfold tileVal
  pointwise [k1_pay1, k1_pay2, k1_pay3, k1_pay4, k1_pay5, k1_pay6, k1_pay7, k1_pay8, k1_pay9, k1_pay10, ch0, ch1, ch2, ch3, ch4, ch5, ch6, ch7]
  simp only [ha, hb, hg, hh, share_first, share_next]
  rw [EReal.coe_eq_coe_iff, Fin.sum_univ_eight]
  have h0 : place 0 l = ⟨l.val, by have := l.isLt; omega⟩ := Fin.ext (by show 16 * 0 + l.val = l.val; omega)
  rw [h0]
  rfl

/-- What the SparseCore call leaves, of real arrays. -/
theorem scOut_apply (a b g h : Vec Ideal S4096 .f32) (A B G H : Fin 4096 → ℝ) (ha : a = fun j => ((A (j 0) : ℝ) : EReal))
    (hb : b = fun j => ((B (j 0) : ℝ) : EReal)) (hg : g = fun j => ((G (j 0) : ℝ) : EReal))
    (hh : h = fun j => ((H (j 0) : ℝ) : EReal)) (i : Fin 32) (l : Fin 16) :
    scOut a b g h (ix2 i l)
      = ((∑ k : Fin 8, share (A (row i (place k l))) (B (row i (place k l))) (G (row i (place k l))) (H (row i (place k l))) : ℝ) : EReal) := by
  subst ha hb hg hh
  exact tileVal_apply _ _ _ _ (fun p => A (row i p)) (fun p => B (row i p)) (fun p => G (row i p)) (fun p => H (row i p))
    (fun _ => rfl) (fun _ => rfl) (fun _ => rfl) (fun _ => rfl) l

/-- The sum of a real array. -/
theorem sum_apply (x : Vec Ideal S32x16 .f32) (X : Fin 32 → Fin 16 → ℝ) (hx : ∀ i l, x (ix2 i l) = ((X i l : ℝ) : EReal)) :
    k2_pay1 x = ((∑ i, ∑ l, X i l : ℝ) : EReal) := by
  pointwise [k2_pay1]
  simp only [hx]
  push_cast
  rfl

/-- The last call leaves the sum of its input. -/
theorem sum_arr (W : Vals Ideal) (O : Dev nD → CellTallies nD τ sig (SparseCore.Cfg.HIx 1)) (B : Dev nD → Set (SemLoc sig × SparseCore.Cfg.HIx 1))
    (c : Dev nD) : (dat2 W O B c).arrAt 1 cfg2.N = fun _ => k2_pay1 (F := Ideal) (W c main_v1) := by
  refine (dat2 W O B c).arrAt_eq_of_covers 1 _ (by decide +kernel) fun t hf y => ?_
  blk_simp
  rw [after2_1]
  unfold sumOut
  frame_out
  have hx : iblk2 W c 0 t = W c main_v1 := by
    funext j
    have e : ∀ t : Fin cfg2.N, win2_0.index t = ![0, 0] := (by decide +kernel : ∀ t : Fin grid2.N, _)
    blk_ext [iblk2, e t]
  rw [hx]

/-! ## The kernel's result -/

/-- The loss of row `r` of the matrices `X` of mining and `Y` of weighting. -/
def rowLoss (X Y : Fin 4096 → Fin 4096 → ℝ) (r : Fin 4096) : ℝ :=
  lossK (hardP X r) (hardN X r) (Y r (posAt X r)) (Y r (negAt X r))

/-- The kernel's result of real matrices is the sum of the rows' losses. -/
theorem out_eq (m : (ℓ : Loc nD τ sig) → Buf (Elt Ideal) ℓ) (c : Dev nD) (X Y : Fin 4096 → Fin 4096 → ℝ)
    (hX : ∀ q b : Fin 4096, m ((c : Thread nD τ).loc main_arg0) (ix2 q b) = ((X q b : ℝ) : EReal))
    (hY : ∀ q b : Fin 4096, m ((c : Thread nD τ).loc main_arg1) (ix2 q b) = ((Y q b : ℝ) : EReal)) :
    out m c = fun _ => ((∑ r, rowLoss X Y r : ℝ) : EReal) := by
  have h0 := (V1_arr m c 2).trans (ap_arr (V0 m) _ _ c X hX)
  have h1 := (V1_arr m c 3).trans (an_arr (V0 m) _ _ c X hX)
  have h2 := (V1_arr m c 4).trans (gp_arr (V0 m) _ _ c X Y hX hY)
  have h3 := (V1_arr m c 5).trans (gn_arr (V0 m) _ _ c X Y hX hY)
  have hv1 : V2 m c main_v1 = scOut (V1 m c main_v0_0) (V1 m c main_v0_1) (V1 m c main_v0_2) (V1 m c main_v0_3) :=
    Function.update_self _ _ _
  have hv2 := (V3_arr m c 1).trans (sum_arr (V2 m) _ _ c)
  have hsum := sum_apply _ _ (scOut_apply (V1 m c main_v0_0) (V1 m c main_v0_1) (V1 m c main_v0_2) (V1 m c main_v0_3)
    (fun r => (hardP X r - lse (hardP X r) (hardN X r)) * (-(1 / 4096))) (fun r => (hardN X r - lse (hardP X r) (hardN X r)) * (-(1 / 4096)))
    (fun r => Y r (posAt X r)) (fun r => Y r (negAt X r)) h0 h1 h2 h3)
  rw [sum_rows fun r => share ((hardP X r - lse (hardP X r) (hardN X r)) * (-(1 / 4096)))
    ((hardN X r - lse (hardP X r) (hardN X r)) * (-(1 / 4096))) (Y r (posAt X r)) (Y r (negAt X r))] at hsum
  funext j
  show V3 m c main_v2 _ = _
  refine (congrFun hv2 _).trans ?_
  show k2_pay1 (F := Ideal) (V2 m c main_v1) = _
  rw [hv1]
  exact hsum

end Cert.Val

end
-- ==== Proof.Val.Ref.lean ====
/-
  The reference's result of matrices of reals is the sum of the rows' losses.
-/
module

public import proofs.«01_k».proof.Proof.Val.RefPick
public import proofs.«01_k».proof.Proof.Val.RefTake
public import proofs.«01_k».proof.Proof.Val.RefLoss
public import proofs.«01_k».proof.Proof.Val.Sc

@[expose] public section

noncomputable section

namespace Cert.Val.Ref

open Idealize.ShloMosaic Cert.ReferenceIdeal Cert.ReferenceIdeal.Gen Cert.ReferenceIdeal.Value
open Idealize.ShloMosaic.TcCoe

variable {x y : FVec Ideal S4096x4096 .f32} {X Y : Fin 4096 → Fin 4096 → ℝ} {r : Fin 4096}

theorem hard_zero (hx : ∀ b, x (ix2 r b) = ((X r b : ℝ) : EReal)) : hard x (ix2 r 0) = ((hardP X r : ℝ) : EReal) := by
  unfold hard
  rw [pair_zero, col_apply, head_apply, least_apply _ (pos_apply hx) 0 rfl]
  rfl

theorem hard_one (hx : ∀ b, x (ix2 r b) = ((X r b : ℝ) : EReal)) : hard x (ix2 r 1) = ((hardN X r : ℝ) : EReal) := by
  unfold hard
  rw [pair_one, col_apply, head_apply]
  show -(least (Host.negf (neg x)) (ix2 r 0)) = _
  rw [least_apply (fun j => -negRow X r j) (neg_apply hx) 0 rfl, ← EReal.coe_neg, neg_neg]
  rfl

theorem partner_zero (hx : ∀ b, x (ix2 r b) = ((X r b : ℝ) : EReal)) (hy : ∀ b, y (ix2 r b) = ((Y r b : ℝ) : EReal)) :
    partner x y (ix2 r 0) = ((Y r (posAt X r) : ℝ) : EReal) := by
  unfold partner
  rw [pair_zero, col_apply, takeAt_apply (k := posAt X r), hy]
  rw [col_apply, head_apply, leastAt_apply _ (pos_apply hx) 0 rfl]
  rfl

theorem partner_one (hx : ∀ b, x (ix2 r b) = ((X r b : ℝ) : EReal)) (hy : ∀ b, y (ix2 r b) = ((Y r b : ℝ) : EReal)) :
    partner x y (ix2 r 1) = ((Y r (negAt X r) : ℝ) : EReal) := by
  unfold partner
  rw [pair_one, col_apply, takeAt_apply (k := negAt X r), hy]
  rw [col_apply, head_apply, leastAt_apply (fun j => -negRow X r j) (neg_apply hx) 0 rfl]
  rfl

/-- The loss of the two columns: both means, summed, are the sum of the rows' losses. -/
theorem loss_eq (hx : ∀ r b, x (ix2 r b) = ((X r b : ℝ) : EReal)) (hy : ∀ r b, y (ix2 r b) = ((Y r b : ℝ) : EReal)) :
    loss (hard x) (partner x y) = fun _ => ((∑ r, rowLoss X Y r : ℝ) : EReal) := by
  funext j
  rw [loss_apply,
    mean_apply _ _ 0 (fun r => lossR (hardP X r) (hardN X r) (hardP X r) (Y r (posAt X r)) (Y r (negAt X r)) (Y r (posAt X r))) fun r => ?_,
    mean_apply _ _ 1 (fun r => lossR (hardP X r) (hardN X r) (hardN X r) (Y r (posAt X r)) (Y r (negAt X r)) (Y r (negAt X r))) fun r => ?_,
    ← EReal.coe_add, ← add_mul, ← Finset.sum_add_distrib, Finset.sum_mul]
  · refine congrArg _ (Finset.sum_congr rfl fun r _ => ?_)
    rw [rowLoss, lossK_eq]
  · rw [softmax_apply (partner_zero (hx r) (hy r)) (partner_one (hx r) (hy r)) 1 _ (partner_one (hx r) (hy r)),
      logSoftmax_apply (hard_zero (hx r)) (hard_one (hx r)) 1 _ (hard_one (hx r)), ← EReal.coe_neg, ← EReal.coe_mul]
    rfl
  · rw [softmax_apply (partner_zero (hx r) (hy r)) (partner_one (hx r) (hy r)) 0 _ (partner_zero (hx r) (hy r)),
      logSoftmax_apply (hard_zero (hx r)) (hard_one (hx r)) 0 _ (hard_zero (hx r)), ← EReal.coe_neg, ← EReal.coe_mul]
    rfl

end Cert.Val.Ref

end
-- ==== Proof.lean ====
/- It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Val.Pre
public import proofs.«01_k».proof.Proof.Val.Ref
public import Idealize.ShloMosaic.Adequacy
public import Idealize.ShloMosaic.Init

@[expose] public section

noncomputable section

namespace Cert.Proof

open Idealize.ShloMosaic Idealize.SL.Sem

/-- The kernel's run with its float words: the arguments unchanged, every semaphore counter back at zero. -/
theorem frame_p : Cert.quiescent_Kernel := fun m ρ _ =>
  (θ_run Cert.Kernel.defs _ _).mono (fun _ h => ⟨fun c => ⟨(h.1 c).1, (h.1 c).2.1⟩, h.2⟩) (Cert.Kernel.Run.run_main (F := Bits) m ρ)

/-- The same of the idealized kernel. -/
theorem frame_pi : Cert.quiescent_KernelIdeal := fun m ρ _ =>
  (θ_run Cert.KernelIdeal.defs _ _).mono (fun _ h => ⟨fun c => ⟨(h.1 c).1, (h.1 c).2.1⟩, h.2⟩)
    (Cert.KernelIdeal.Run.run_main (F := Ideal) m ρ)

/-- The same of the idealized reference, which declares no semaphore. -/
theorem frame_ri : Cert.quiescent_ReferenceIdeal := by
  intro m ρ _
  exact (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- Of finite matrices both programs leave the sum of the rows' losses. -/
theorem algebraic : Cert.algebraic_KernelIdeal_ReferenceIdeal_pre_finite := by
  intro m g m' g' hpre hag
  choose X Y hX hY using fun c => Cert.Val.finite_real _ _ (hpre c)
  refine ⟨fun c => fun _ => ((∑ r, Cert.Val.rowLoss (X c) (Y c) r : ℝ) : EReal), ?_, ?_⟩
  · exact (θ_run Cert.KernelIdeal.defs _ _).mono
      (fun _ h c => ⟨(h.1 c).2.2.trans (Cert.Val.out_eq m c (X c) (Y c) (hX c) (hY c)), (h.1 c).1, (h.1 c).2.1⟩)
      (Cert.KernelIdeal.Run.run_main (F := Ideal) m g)
  · refine (θ_run Cert.ReferenceIdeal.defs _ _).mono (fun r h c => ⟨(h c).1.trans ?_, (h c).2⟩)
      (Cert.ReferenceIdeal.Value.run (F := Ideal) m' g')
    rw [Cert.Val.Ref.res_eq, (hag c).1, (hag c).2]
    exact Cert.Val.Ref.loss_eq (hX c) (hY c)

theorem claim : Cert.Claim :=
  ⟨Cert.Kernel.Gen.facts, Cert.KernelIdeal.Gen.facts, Cert.ReferenceIdeal.Gen.facts, Cert.Pre_finite.Gen.facts, frame_p, frame_pi,
    fun m ρ _ => frame_pi m ρ trivial, frame_ri, fun m ρ _ => frame_ri m ρ trivial, trivial, algebraic⟩

end Cert.Proof

end
